-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_projection [hPre_projection : Cert.Pre_projection.Facts] (m : (ℓ : Loc Cert.KernelIdeal.nD Cert.KernelIdeal.τ Cert.KernelIdeal.sig) → Buf (Elt Ideal) ℓ) : Prop :=
  ∀ c : Dev Cert.KernelIdeal.nD,
    (Cert.Pre_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_projection [hPre_projection : Cert.Pre_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_projection [hKernelIdeal : Cert.KernelIdeal.Facts] [hPre_projection : Cert.Pre_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_projection m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_projection [hReferenceIdeal : Cert.ReferenceIdeal.Facts] [hPre_projection : Cert.Pre_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_projection [hKernelIdeal : Cert.KernelIdeal.Facts] [hReferenceIdeal : Cert.ReferenceIdeal.Facts] [hPre_projection : Cert.Pre_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_projection : Cert.Pre_projection.Facts),
    quiescent_Kernel (hKernel := hKernel) (hPre_in_range := hPre_in_range)
    ∧ quiescent_KernelIdeal (hKernelIdeal := hKernelIdeal) (hPre_in_range := hPre_in_range)
    ∧ quiescent_KernelIdeal_pre_projection (hKernelIdeal := hKernelIdeal) (hPre_projection := hPre_projection)
    ∧ quiescent_ReferenceIdeal (hReferenceIdeal := hReferenceIdeal)
    ∧ quiescent_ReferenceIdeal_pre_projection (hReferenceIdeal := hReferenceIdeal) (hPre_projection := hPre_projection)
    ∧ preserves_Kernel_KernelIdeal
    ∧ algebraic_KernelIdeal_ReferenceIdeal_pre_projection (hKernelIdeal := hKernelIdeal) (hReferenceIdeal := hReferenceIdeal) (hPre_projection := hPre_projection)
-- ==== Pre_in_range.lean ====
abbrev S256x65536 : Shape := ⟨2, ![256, 65536]⟩
abbrev S268435 : Shape := ⟨1, ![268435]⟩
abbrev S_ : Shape := ⟨0, ![]⟩

class Facts : Prop where
  bcast_S_S268435 : S_.BroadcastsInDim S268435 (![] : Fin 0 → Fin S268435.rank)
  reducesTo_S268435_S_d0 : S268435.ReducesTo [0] S_
  h_S_ : 0 < S_.numel

variable [Facts]

def fn {F : FTy → Type} [FloatOps F] (main_arg0 : FVec F S256x65536 .f32) (main_arg1 : IVec S268435 32) (main_arg2 : IVec S268435 32) (main_arg3 : FVec F S268435 .f32) : IVec S_ 1 :=
  let main_c : IVec S_ 32 := constantI S_ 32 0#32
  let main_v0 : IVec S268435 32 := broadcastInDim S268435 ![] bcast_S_S268435 main_c
  let main_v1 : IVec S268435 1 := cmpi .sge main_arg1 main_v0
  let main_c_0 : IVec S_ 32 := constantI S_ 32 4096#32
  let main_v2 : IVec S268435 32 := broadcastInDim S268435 ![] bcast_S_S268435 main_c_0
  let main_v3 : IVec S268435 1 := cmpi .slt main_arg1 main_v2
  let main_v4 : IVec S268435 1 := andi main_v1 main_v3
  let main_c_1 : IVec S_ 1 := constantI S_ 1 1#1
  let main_v5 : IVec S_ 1 := (fun x v => Host.reduce IntOp.andi x v reducesTo_S268435_S_d0 h_S_) main_v4 main_c_1
  let main_c_2 : IVec S_ 32 := constantI S_ 32 0#32
  let main_v6 : IVec S268435 32 := broadcastInDim S268435 ![] bcast_S_S268435 main_c_2
  let main_v7 : IVec S268435 1 := cmpi .sge main_arg2 main_v6
  let main_c_3 : IVec S_ 32 := constantI S_ 32 65536#32
  let main_v8 : IVec S268435 32 := broadcastInDim S268435 ![] bcast_S_S268435 main_c_3
  let main_v9 : IVec S268435 1 := cmpi .slt main_arg2 main_v8
  let main_v10 : IVec S268435 1 := andi main_v7 main_v9
  let main_c_4 : IVec S_ 1 := constantI S_ 1 1#1
  let main_v11 : IVec S_ 1 := (fun x v => Host.reduce IntOp.andi x v reducesTo_S268435_S_d0 h_S_) main_v10 main_c_4
  let main_v12 : IVec S_ 1 := andi main_v5 main_v11
  main_v12
-- ==== Pre_projection.lean ====
abbrev S256x65536 : Shape := ⟨2, ![256, 65536]⟩
abbrev S268435 : Shape := ⟨1, ![268435]⟩
abbrev S_ : Shape := ⟨0, ![]⟩

class Facts : Prop where
  bcast_S_S268435 : S_.BroadcastsInDim S268435 (![] : Fin 0 → Fin S268435.rank)
  reducesTo_S268435_S_d0 : S268435.ReducesTo [0] S_
  h_S_ : 0 < S_.numel
  bcast_S_S256x65536 : S_.BroadcastsInDim S256x65536 (![] : Fin 0 → Fin S256x65536.rank)
  reducesTo_S256x65536_S_d0_1 : S256x65536.ReducesTo [0, 1] S_

variable [Facts]

def fn_part1 {F : FTy → Type} [FloatOps F] (main_arg0 : FVec F S256x65536 .f32) (main_arg3 : FVec F S268435 .f32) (main_v12 : IVec S_ 1) (main_v14 : IVec S268435 1) (main_v15 : FVec F S_ .f32) : IVec S_ 1 :=
  let main_v16 : FVec F S268435 .f32 := broadcastInDim S268435 ![] bcast_S_S268435 main_v15
  let main_v17 : IVec S268435 1 := cmpf .oeq main_arg3 main_v16
  let main_v18 : IVec S268435 1 := ori main_v14 main_v17
  let main_c_6 : IVec S_ 1 := constantI S_ 1 1#1
  let main_v19 : IVec S_ 1 := (fun x v => Host.reduce IntOp.andi x v reducesTo_S268435_S_d0 h_S_) main_v18 main_c_6
  let main_v20 : IVec S_ 1 := andi main_v12 main_v19
  let main_v21 : FVec F S256x65536 .f32 := Host.absf main_arg0
  let main_cst_7 : FVec F S_ .f32 := constant S_ .f32 0x7F800000#32
  let main_v22 : FVec F S256x65536 .f32 := broadcastInDim S256x65536 ![] bcast_S_S256x65536 main_cst_7
  let main_v23 : IVec S256x65536 1 := cmpf .olt main_v21 main_v22
  let main_c_8 : IVec S_ 1 := constantI S_ 1 1#1
  let main_v24 : IVec S_ 1 := (fun x v => Host.reduce IntOp.andi x v reducesTo_S256x65536_S_d0_1 h_S_) main_v23 main_c_8
  let main_v25 : IVec S_ 1 := andi main_v20 main_v24
  main_v25

def fn {F : FTy → Type} [FloatOps F] (main_arg0 : FVec F S256x65536 .f32) (main_arg1 : IVec S268435 32) (main_arg2 : IVec S268435 32) (main_arg3 : FVec F S268435 .f32) : IVec S_ 1 :=
  let main_c : IVec S_ 32 := constantI S_ 32 0#32
  let main_v0 : IVec S268435 32 := broadcastInDim S268435 ![] bcast_S_S268435 main_c
  let main_v1 : IVec S268435 1 := cmpi .sge main_arg1 main_v0
  let main_c_0 : IVec S_ 32 := constantI S_ 32 4096#32
  let main_v2 : IVec S268435 32 := broadcastInDim S268435 ![] bcast_S_S268435 main_c_0
  let main_v3 : IVec S268435 1 := cmpi .slt main_arg1 main_v2
  let main_v4 : IVec S268435 1 := andi main_v1 main_v3
  let main_c_1 : IVec S_ 1 := constantI S_ 1 1#1
  let main_v5 : IVec S_ 1 := (fun x v => Host.reduce IntOp.andi x v reducesTo_S268435_S_d0 h_S_) main_v4 main_c_1
  let main_c_2 : IVec S_ 32 := constantI S_ 32 0#32
  let main_v6 : IVec S268435 32 := broadcastInDim S268435 ![] bcast_S_S268435 main_c_2
  let main_v7 : IVec S268435 1 := cmpi .sge main_arg2 main_v6
  let main_c_3 : IVec S_ 32 := constantI S_ 32 65536#32
  let main_v8 : IVec S268435 32 := broadcastInDim S268435 ![] bcast_S_S268435 main_c_3
  let main_v9 : IVec S268435 1 := cmpi .slt main_arg2 main_v8
  let main_v10 : IVec S268435 1 := andi main_v7 main_v9
  let main_c_4 : IVec S_ 1 := constantI S_ 1 1#1
  let main_v11 : IVec S_ 1 := (fun x v => Host.reduce IntOp.andi x v reducesTo_S268435_S_d0 h_S_) main_v10 main_c_4
  let main_v12 : IVec S_ 1 := andi main_v5 main_v11
  let main_cst : FVec F S_ .f32 := constant S_ .f32 0x3EFCFB72#32
  let main_v13 : FVec F S268435 .f32 := broadcastInDim S268435 ![] bcast_S_S268435 main_cst
  let main_v14 : IVec S268435 1 := cmpf .oeq main_arg3 main_v13
  let main_cst_5 : FVec F S_ .f32 := constant S_ .f32 0x3EFCFB72#32
  let main_v15 : FVec F S_ .f32 := Host.negf main_cst_5
  fn_part1 (F := F) main_arg0 main_arg3 main_v12 main_v14 main_v15
-- ==== Kernel.lean ====
abbrev S256x65536 : Shape := ⟨2, ![256, 65536]⟩
abbrev S268435 : Shape := ⟨1, ![268435]⟩
abbrev S_ : Shape := ⟨0, ![]⟩
abbrev S1901 : Shape := ⟨1, ![1901]⟩
abbrev S270336 : Shape := ⟨1, ![270336]⟩
abbrev S256x4096 : Shape := ⟨2, ![256, 4096]⟩
abbrev S2x8192 : Shape := ⟨2, ![2, 8192]⟩
abbrev S65536 : Shape := ⟨1, ![65536]⟩
abbrev S8208 : Shape := ⟨1, ![8208]⟩
abbrev S4096 : Shape := ⟨1, ![4096]⟩
abbrev S1x65536 : Shape := ⟨2, ![1, 65536]⟩
abbrev S16 : Shape := ⟨1, ![16]⟩
abbrev S1x8192 : Shape := ⟨2, ![1, 8192]⟩
abbrev S8192 : Shape := ⟨1, ![8192]⟩
abbrev S1x16 : Shape := ⟨2, ![1, 16]⟩
abbrev S1x4096 : Shape := ⟨2, ![1, 4096]⟩

abbrev nBuf : Table → Nat
  | .hbm => 20
  | .local .scVector .vmem => 4
  | _ => 0

abbrev bufTy : (tb : Table) → Fin (nBuf tb) → BufTy
  | .hbm, ⟨0, _⟩ => ⟨S256x65536, .f32⟩
  | .hbm, ⟨1, _⟩ => ⟨S268435, .i32⟩
  | .hbm, ⟨2, _⟩ => ⟨S268435, .i32⟩
  | .hbm, ⟨3, _⟩ => ⟨S268435, .f32⟩
  | .hbm, ⟨4, _⟩ => ⟨S_, .f32⟩
  | .hbm, ⟨5, _⟩ => ⟨S268435, .f32⟩
  | .hbm, ⟨6, _⟩ => ⟨S268435, .i1⟩
  | .hbm, ⟨7, _⟩ => ⟨S268435, .i32⟩
  | .hbm, ⟨8, _⟩ => ⟨S_, .i32⟩
  | .hbm, ⟨9, _⟩ => ⟨S268435, .i32⟩
  | .hbm, ⟨10, _⟩ => ⟨S268435, .i32⟩
  | .hbm, ⟨11, _⟩ => ⟨S268435, .i32⟩
  | .hbm, ⟨12, _⟩ => ⟨S_, .i32⟩
  | .hbm, ⟨13, _⟩ => ⟨S268435, .i32⟩
  | .hbm, ⟨14, _⟩ => ⟨S268435, .i32⟩
  | .hbm, ⟨15, _⟩ => ⟨S268435, .i32⟩
  | .hbm, ⟨16, _⟩ => ⟨S_, .i32⟩
  | .hbm, ⟨17, _⟩ => ⟨S1901, .i32⟩
  | .hbm, ⟨18, _⟩ => ⟨S270336, .i32⟩
  | .hbm, ⟨19, _⟩ => ⟨S256x4096, .f32⟩
  | .local .scVector .vmem, ⟨0, _⟩ => ⟨S2x8192, .i32⟩
  | .local .scVector .vmem, ⟨1, _⟩ => ⟨S65536, .f32⟩
  | .local .scVector .vmem, ⟨2, _⟩ => ⟨S8208, .f32⟩
  | .local .scVector .vmem, ⟨3, _⟩ => ⟨S4096, .f32⟩
  | _, _ => ⟨S256x65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_arg0_scv : Ref sig .scVector := ⟨.hbm, 0, rfl⟩
abbrev main_v10_scv : Ref sig .scVector := ⟨.hbm, 18, rfl⟩
abbrev main_v11_scv : Ref sig .scVector := ⟨.hbm, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v3 : BitVec 32 := Scalar.muli v1 c8_i32_2
  let c0_i32_0 : BitVec 32 := 0#32
  let c1_i32 : BitVec 32 := 1#32
  let arg11 : BitVec 32 := Scf.iv c0_i32_0 c1_i32 k0_t1
  let v4 : BitVec 32 := Scalar.addi v3 arg11
  let c0_i32_438_r0 : BitVec 32 := 0#32
  ![v4.toNat, 0]
@[reducible] def k0_t2_loop : Scf.Loop 32 :=
  let c0_i32_3 : BitVec 32 := 0#32
  let c513_i32 : BitVec 32 := 513#32
  let v5 : BitVec 32 := Scalar.addi c0_i32_3 c513_i32
  let c1_i32_4 : BitVec 32 := 1#32
  ⟨c0_i32_3, v5, c1_i32_4⟩
def k0_off2 (k0_t2 : Fin k0_t2_loop.trips) : Fin 1 → Nat :=
  let c0_i32_439 : BitVec 32 := 0#32
  let c0_i32_3 : BitVec 32 := 0#32
  let c1_i32_4 : BitVec 32 := 1#32
  let arg12 : BitVec 32 := Scf.iv c0_i32_3 c1_i32_4 k0_t2
  let c1_i32_438 : BitVec 32 := 1#32
  let v436 : BitVec 32 := Scalar.muli arg12 c1_i32_438
  let v437 : BitVec 32 := Scalar.addi c0_i32_439 v436
  let c16_i32 : BitVec 32 := 16#32
  let v439 : BitVec 32 := Scalar.muli v437 c16_i32
  let v440 : Index := Scalar.indexCast v439
  ![v440.toNat]
@[reducible] def k0_t3_loop : Scf.Loop 32 :=
  let c0_i32_20 : BitVec 32 := 0#32
  let c512_i32 : BitVec 32 := 512#32
  let v24 : BitVec 32 := Scalar.addi c0_i32_20 c512_i32
  let c1_i32_21 : BitVec 32 := 1#32
  ⟨c0_i32_20, v24, c1_i32_21⟩
def k0_off3 (k0_t3 : Fin k0_t3_loop.trips) : Fin 2 → Nat :=
  let c0_i32_440 : BitVec 32 := 0#32
  let v439 : Index := Scalar.indexCast c0_i32_440
  let c0_i32_439 : BitVec 32 := 0#32
  let c0_i32_20 : BitVec 32 := 0#32
  let c1_i32_21 : BitVec 32 := 1#32
  let arg12 : BitVec 32 := Scf.iv c0_i32_20 c1_i32_21 k0_t3
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk1 (v443 : IVec S16 32) : Prop :=
  (∀ a x, ((![v443] : Fin 1 → IVec S16 32) a x).toNat < S65536.size a)
theorem k0_idx1_inb : ∀ (v443 : IVec S16 32) (k0_hw1 : k0_chk1 v443), ∀ a x, ((![v443] : Fin 1 → IVec S16 32) a x).toNat < S65536.size a := fun v443 k0_hw1 => k0_hw1

def k0_chk2 (v445 : IVec S16 32) : Prop :=
  (∀ a x, ((![v445] : Fin 1 → IVec S16 32) a x).toNat < S8208.size a)
theorem k0_idx2_inb : ∀ (v445 : IVec S16 32) (k0_hw2 : k0_chk2 v445), ∀ a x, ((![v445] : Fin 1 → IVec S16 32) a x).toNat < S8208.size a := fun v445 k0_hw2 => k0_hw2
@[reducible] def k0_t4_loop : Scf.Loop 32 :=
  let c0_i32_32 : BitVec 32 := 0#32
  let c512_i32_33 : BitVec 32 := 512#32
  let v37 : BitVec 32 := Scalar.addi c0_i32_32 c512_i32_33
  let c1_i32_34 : BitVec 32 := 1#32
  ⟨c0_i32_32, v37, c1_i32_34⟩
def k0_off4 (k0_t4 : Fin k0_t4_loop.trips) : Fin 2 → Nat :=
  let c1_i32_440 : BitVec 32 := 1#32
  let v439 : Index := Scalar.indexCast c1_i32_440
  let c0_i32_439 : BitVec 32 := 0#32
  let c0_i32_32 : BitVec 32 := 0#32
  let c1_i32_34 : BitVec 32 := 1#32
  let arg12 : BitVec 32 := Scf.iv c0_i32_32 c1_i32_34 k0_t4
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk3 (v443 : IVec S16 32) : Prop :=
  (∀ a x, ((![v443] : Fin 1 → IVec S16 32) a x).toNat < S65536.size a)
theorem k0_idx3_inb : ∀ (v443 : IVec S16 32) (k0_hw3 : k0_chk3 v443), ∀ a x, ((![v443] : Fin 1 → IVec S16 32) a x).toNat < S65536.size a := fun v443 k0_hw3 => k0_hw3

def k0_chk4 (v445 : IVec S16 32) : Prop :=
  (∀ a x, ((![v445] : Fin 1 → IVec S16 32) a x).toNat < S8208.size a)
theorem k0_idx4_inb : ∀ (v445 : IVec S16 32) (k0_hw4 : k0_chk4 v445), ∀ a x, ((![v445] : Fin 1 → IVec S16 32) a x).toNat < S8208.size a := fun v445 k0_hw4 => k0_hw4
@[reducible] def k0_t5_loop : Scf.Loop 32 :=
  let c0_i32_45 : BitVec 32 := 0#32
  let c512_i32_46 : BitVec 32 := 512#32
  let v50 : BitVec 32 := Scalar.addi c0_i32_45 c512_i32_46
  let c1_i32_47 : BitVec 32 := 1#32
  ⟨c0_i32_45, v50, c1_i32_47⟩
def k0_off5 (k0_t5 : Fin k0_t5_loop.trips) : Fin 2 → Nat :=
  let c0_i32_440 : BitVec 32 := 0#32
  let v439 : Index := Scalar.indexCast c0_i32_440
  let c0_i32_439 : BitVec 32 := 0#32
  let c0_i32_45 : BitVec 32 := 0#32
  let c1_i32_47 : BitVec 32 := 1#32
  let arg12 : BitVec 32 := Scf.iv c0_i32_45 c1_i32_47 k0_t5
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk5 (v443 : IVec S16 32) : Prop :=
  (∀ a x, ((![v443] : Fin 1 → IVec S16 32) a x).toNat < S65536.size a)
theorem k0_idx5_inb : ∀ (v443 : IVec S16 32) (k0_hw5 : k0_chk5 v443), ∀ a x, ((![v443] : Fin 1 → IVec S16 32) a x).toNat < S65536.size a := fun v443 k0_hw5 => k0_hw5

def k0_chk6 (v445 : IVec S16 32) : Prop :=
  (∀ a x, ((![v445] : Fin 1 → IVec S16 32) a x).toNat < S8208.size a)
theorem k0_idx6_inb : ∀ (v445 : IVec S16 32) (k0_hw6 : k0_chk6 v445), ∀ a x, ((![v445] : Fin 1 → IVec S16 32) a x).toNat < S8208.size a := fun v445 k0_hw6 => k0_hw6
@[reducible] def k0_t6_loop : Scf.Loop 32 :=
  let c0_i32_58 : BitVec 32 := 0#32
  let c512_i32_59 : BitVec 32 := 512#32
  let v63 : BitVec 32 := Scalar.addi c0_i32_58 c512_i32_59
  let c1_i32_60 : BitVec 32 := 1#32
  ⟨c0_i32_58, v63, c1_i32_60⟩
def k0_off6 (k0_t6 : Fin k0_t6_loop.trips) : Fin 2 → Nat :=
  let c1_i32_440 : BitVec 32 := 1#32
  let v439 : Index := Scalar.indexCast c1_i32_440
  let c0_i32_439 : BitVec 32 := 0#32
  let c0_i32_58 : BitVec 32 := 0#32
  let c1_i32_60 : BitVec 32 := 1#32
  let arg12 : BitVec 32 := Scf.iv c0_i32_58 c1_i32_60 k0_t6
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk7 (v443 : IVec S16 32) : Prop :=
  (∀ a x, ((![v443] : Fin 1 → IVec S16 32) a x).toNat < S65536.size a)
theorem k0_idx7_inb : ∀ (v443 : IVec S16 32) (k0_hw7 : k0_chk7 v443), ∀ a x, ((![v443] : Fin 1 → IVec S16 32) a x).toNat < S65536.size a := fun v443 k0_hw7 => k0_hw7

def k0_chk8 (v445 : IVec S16 32) : Prop :=
  (∀ a x, ((![v445] : Fin 1 → IVec S16 32) a x).toNat < S8208.size a)
theorem k0_idx8_inb : ∀ (v445 : IVec S16 32) (k0_hw8 : k0_chk8 v445), ∀ a x, ((![v445] : Fin 1 → IVec S16 32) a x).toNat < S8208.size a := fun v445 k0_hw8 => k0_hw8
@[reducible] def k0_t7_loop : Scf.Loop 32 :=
  let c0_i32_71 : BitVec 32 := 0#32
  let c512_i32_72 : BitVec 32 := 512#32
  let v76 : BitVec 32 := Scalar.addi c0_i32_71 c512_i32_72
  let c1_i32_73 : BitVec 32 := 1#32
  ⟨c0_i32_71, v76, c1_i32_73⟩
def k0_off7 (k0_t7 : Fin k0_t7_loop.trips) : Fin 2 → Nat :=
  let c0_i32_440 : BitVec 32 := 0#32
  let v439 : Index := Scalar.indexCast c0_i32_440
  let c0_i32_439 : BitVec 32 := 0#32
  let c0_i32_71 : BitVec 32 := 0#32
  let c1_i32_73 : BitVec 32 := 1#32
  let arg12 : BitVec 32 := Scf.iv c0_i32_71 c1_i32_73 k0_t7
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk9 (v443 : IVec S16 32) : Prop :=
  (∀ a x, ((![v443] : Fin 1 → IVec S16 32) a x).toNat < S65536.size a)
theorem k0_idx9_inb : ∀ (v443 : IVec S16 32) (k0_hw9 : k0_chk9 v443), ∀ a x, ((![v443] : Fin 1 → IVec S16 32) a x).toNat < S65536.size a := fun v443 k0_hw9 => k0_hw9

def k0_chk10 (v445 : IVec S16 32) : Prop :=
  (∀ a x, ((![v445] : Fin 1 → IVec S16 32) a x).toNat < S8208.size a)
theorem k0_idx10_inb : ∀ (v445 : IVec S16 32) (k0_hw10 : k0_chk10 v445), ∀ a x, ((![v445] : Fin 1 → IVec S16 32) a x).toNat < S8208.size a := fun v445 k0_hw10 => k0_hw10
@[reducible] def k0_t8_loop : Scf.Loop 32 :=
  let c0_i32_84 : BitVec 32 := 0#32
  let c512_i32_85 : BitVec 32 := 512#32
  let v89 : BitVec 32 := Scalar.addi c0_i32_84 c512_i32_85
  let c1_i32_86 : BitVec 32 := 1#32
  ⟨c0_i32_84, v89, c1_i32_86⟩
def k0_off8 (k0_t8 : Fin k0_t8_loop.trips) : Fin 2 → Nat :=
  let c1_i32_440 : BitVec 32 := 1#32
  let v439 : Index := Scalar.indexCast c1_i32_440
  let c0_i32_439 : BitVec 32 := 0#32
  let c0_i32_84 : BitVec 32 := 0#32
  let c1_i32_86 : BitVec 32 := 1#32
  let arg12 : BitVec 32 := Scf.iv c0_i32_84 c1_i32_86 k0_t8
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk11 (v443 : IVec S16 32) : Prop :=
  (∀ a x, ((![v443] : Fin 1 → IVec S16 32) a x).toNat < S65536.size a)
theorem k0_idx11_inb : ∀ (v443 : IVec S16 32) (k0_hw11 : k0_chk11 v443), ∀ a x, ((![v443] : Fin 1 → IVec S16 32) a x).toNat < S65536.size a := fun v443 k0_hw11 => k0_hw11

def k0_chk12 (v445 : IVec S16 32) : Prop :=
  (∀ a x, ((![v445] : Fin 1 → IVec S16 32) a x).toNat < S8208.size a)
theorem k0_idx12_inb : ∀ (v445 : IVec S16 32) (k0_hw12 : k0_chk12 v445), ∀ a x, ((![v445] : Fin 1 → IVec S16 32) a x).toNat < S8208.size a := fun v445 k0_hw12 => k0_hw12
@[reducible] def k0_t9_loop : Scf.Loop 32 :=
  let c0_i32_97 : BitVec 32 := 0#32
  let c512_i32_98 : BitVec 32 := 512#32
  let v102 : BitVec 32 := Scalar.addi c0_i32_97 c512_i32_98
  let c1_i32_99 : BitVec 32 := 1#32
  ⟨c0_i32_97, v102, c1_i32_99⟩
def k0_off9 (k0_t9 : Fin k0_t9_loop.trips) : Fin 2 → Nat :=
  let c0_i32_440 : BitVec 32 := 0#32
  let v439 : Index := Scalar.indexCast c0_i32_440
  let c0_i32_439 : BitVec 32 := 0#32
  let c0_i32_97 : BitVec 32 := 0#32
  let c1_i32_99 : BitVec 32 := 1#32
  let arg12 : BitVec 32 := Scf.iv c0_i32_97 c1_i32_99 k0_t9
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk13 (v443 : IVec S16 32) : Prop :=
  (∀ a x, ((![v443] : Fin 1 → IVec S16 32) a x).toNat < S65536.size a)
theorem k0_idx13_inb : ∀ (v443 : IVec S16 32) (k0_hw13 : k0_chk13 v443), ∀ a x, ((![v443] : Fin 1 → IVec S16 32) a x).toNat < S65536.size a := fun v443 k0_hw13 => k0_hw13

def k0_chk14 (v445 : IVec S16 32) : Prop :=
  (∀ a x, ((![v445] : Fin 1 → IVec S16 32) a x).toNat < S8208.size a)
theorem k0_idx14_inb : ∀ (v445 : IVec S16 32) (k0_hw14 : k0_chk14 v445), ∀ a x, ((![v445] : Fin 1 → IVec S16 32) a x).toNat < S8208.size a := fun v445 k0_hw14 => k0_hw14
@[reducible] def k0_t10_loop : Scf.Loop 32 :=
  let c0_i32_110 : BitVec 32 := 0#32
  let c512_i32_111 : BitVec 32 := 512#32
  let v115 : BitVec 32 := Scalar.addi c0_i32_110 c512_i32_111
  let c1_i32_112 : BitVec 32 := 1#32
  ⟨c0_i32_110, v115, c1_i32_112⟩
def k0_off10 (k0_t10 : Fin k0_t10_loop.trips) : Fin 2 → Nat :=
  let c1_i32_440 : BitVec 32 := 1#32
  let v439 : Index := Scalar.indexCast c1_i32_440
  let c0_i32_439 : BitVec 32 := 0#32
  let c0_i32_110 : BitVec 32 := 0#32
  let c1_i32_112 : BitVec 32 := 1#32
  let arg12 : BitVec 32 := Scf.iv c0_i32_110 c1_i32_112 k0_t10
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk15 (v443 : IVec S16 32) : Prop :=
  (∀ a x, ((![v443] : Fin 1 → IVec S16 32) a x).toNat < S65536.size a)
theorem k0_idx15_inb : ∀ (v443 : IVec S16 32) (k0_hw15 : k0_chk15 v443), ∀ a x, ((![v443] : Fin 1 → IVec S16 32) a x).toNat < S65536.size a := fun v443 k0_hw15 => k0_hw15

def k0_chk16 (v445 : IVec S16 32) : Prop :=
  (∀ a x, ((![v445] : Fin 1 → IVec S16 32) a x).toNat < S8208.size a)
theorem k0_idx16_inb : ∀ (v445 : IVec S16 32) (k0_hw16 : k0_chk16 v445), ∀ a x, ((![v445] : Fin 1 → IVec S16 32) a x).toNat < S8208.size a := fun v445 k0_hw16 => k0_hw16
@[reducible] def k0_t11_loop : Scf.Loop 32 :=
  let c0_i32_123 : BitVec 32 := 0#32
  let c512_i32_124 : BitVec 32 := 512#32
  let v128 : BitVec 32 := Scalar.addi c0_i32_123 c512_i32_124
  let c1_i32_125 : BitVec 32 := 1#32
  ⟨c0_i32_123, v128, c1_i32_125⟩
def k0_off11 (k0_t11 : Fin k0_t11_loop.trips) : Fin 2 → Nat :=
  let c0_i32_440 : BitVec 32 := 0#32
  let v439 : Index := Scalar.indexCast c0_i32_440
  let c0_i32_439 : BitVec 32 := 0#32
  let c0_i32_123 : BitVec 32 := 0#32
  let c1_i32_125 : BitVec 32 := 1#32
  let arg12 : BitVec 32 := Scf.iv c0_i32_123 c1_i32_125 k0_t11
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk17 (v443 : IVec S16 32) : Prop :=
  (∀ a x, ((![v443] : Fin 1 → IVec S16 32) a x).toNat < S65536.size a)
theorem k0_idx17_inb : ∀ (v443 : IVec S16 32) (k0_hw17 : k0_chk17 v443), ∀ a x, ((![v443] : Fin 1 → IVec S16 32) a x).toNat < S65536.size a := fun v443 k0_hw17 => k0_hw17

def k0_chk18 (v445 : IVec S16 32) : Prop :=
  (∀ a x, ((![v445] : Fin 1 → IVec S16 32) a x).toNat < S8208.size a)
theorem k0_idx18_inb : ∀ (v445 : IVec S16 32) (k0_hw18 : k0_chk18 v445), ∀ a x, ((![v445] : Fin 1 → IVec S16 32) a x).toNat < S8208.size a := fun v445 k0_hw18 => k0_hw18
@[reducible] def k0_t12_loop : Scf.Loop 32 :=
  let c0_i32_136 : BitVec 32 := 0#32
  let c512_i32_137 : BitVec 32 := 512#32
  let v141 : BitVec 32 := Scalar.addi c0_i32_136 c512_i32_137
  let c1_i32_138 : BitVec 32 := 1#32
  ⟨c0_i32_136, v141, c1_i32_138⟩
def k0_off12 (k0_t12 : Fin k0_t12_loop.trips) : Fin 2 → Nat :=
  let c1_i32_440 : BitVec 32 := 1#32
  let v439 : Index := Scalar.indexCast c1_i32_440
  let c0_i32_439 : BitVec 32 := 0#32
  let c0_i32_136 : BitVec 32 := 0#32
  let c1_i32_138 : BitVec 32 := 1#32
  let arg12 : BitVec 32 := Scf.iv c0_i32_136 c1_i32_138 k0_t12
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk19 (v443 : IVec S16 32) : Prop :=
  (∀ a x, ((![v443] : Fin 1 → IVec S16 32) a x).toNat < S65536.size a)
theorem k0_idx19_inb : ∀ (v443 : IVec S16 32) (k0_hw19 : k0_chk19 v443), ∀ a x, ((![v443] : Fin 1 → IVec S16 32) a x).toNat < S65536.size a := fun v443 k0_hw19 => k0_hw19

def k0_chk20 (v445 : IVec S16 32) : Prop :=
  (∀ a x, ((![v445] : Fin 1 → IVec S16 32) a x).toNat < S8208.size a)
theorem k0_idx20_inb : ∀ (v445 : IVec S16 32) (k0_hw20 : k0_chk20 v445), ∀ a x, ((![v445] : Fin 1 → IVec S16 32) a x).toNat < S8208.size a := fun v445 k0_hw20 => k0_hw20
@[reducible] def k0_t13_loop : Scf.Loop 32 :=
  let c0_i32_149 : BitVec 32 := 0#32
  let c512_i32_150 : BitVec 32 := 512#32
  let v154 : BitVec 32 := Scalar.addi c0_i32_149 c512_i32_150
  let c1_i32_151 : BitVec 32 := 1#32
  ⟨c0_i32_149, v154, c1_i32_151⟩
def k0_off13 (k0_t13 : Fin k0_t13_loop.trips) : Fin 2 → Nat :=
  let c0_i32_440 : BitVec 32 := 0#32
  let v439 : Index := Scalar.indexCast c0_i32_440
  let c0_i32_439 : BitVec 32 := 0#32
  let c0_i32_149 : BitVec 32 := 0#32
  let c1_i32_151 : BitVec 32 := 1#32
  let arg12 : BitVec 32 := Scf.iv c0_i32_149 c1_i32_151 k0_t13
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk21 (v443 : IVec S16 32) : Prop :=
  (∀ a x, ((![v443] : Fin 1 → IVec S16 32) a x).toNat < S65536.size a)
theorem k0_idx21_inb : ∀ (v443 : IVec S16 32) (k0_hw21 : k0_chk21 v443), ∀ a x, ((![v443] : Fin 1 → IVec S16 32) a x).toNat < S65536.size a := fun v443 k0_hw21 => k0_hw21

def k0_chk22 (v445 : IVec S16 32) : Prop :=
  (∀ a x, ((![v445] : Fin 1 → IVec S16 32) a x).toNat < S8208.size a)
theorem k0_idx22_inb : ∀ (v445 : IVec S16 32) (k0_hw22 : k0_chk22 v445), ∀ a x, ((![v445] : Fin 1 → IVec S16 32) a x).toNat < S8208.size a := fun v445 k0_hw22 => k0_hw22
@[reducible] def k0_t14_loop : Scf.Loop 32 :=
  let c0_i32_162 : BitVec 32 := 0#32
  let c512_i32_163 : BitVec 32 := 512#32
  let v167 : BitVec 32 := Scalar.addi c0_i32_162 c512_i32_163
  let c1_i32_164 : BitVec 32 := 1#32
  ⟨c0_i32_162, v167, c1_i32_164⟩
def k0_off14 (k0_t14 : Fin k0_t14_loop.trips) : Fin 2 → Nat :=
  let c1_i32_440 : BitVec 32 := 1#32
  let v439 : Index := Scalar.indexCast c1_i32_440
  let c0_i32_439 : BitVec 32 := 0#32
  let c0_i32_162 : BitVec 32 := 0#32
  let c1_i32_164 : BitVec 32 := 1#32
  let arg12 : BitVec 32 := Scf.iv c0_i32_162 c1_i32_164 k0_t14
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk23 (v443 : IVec S16 32) : Prop :=
  (∀ a x, ((![v443] : Fin 1 → IVec S16 32) a x).toNat < S65536.size a)
theorem k0_idx23_inb : ∀ (v443 : IVec S16 32) (k0_hw23 : k0_chk23 v443), ∀ a x, ((![v443] : Fin 1 → IVec S16 32) a x).toNat < S65536.size a := fun v443 k0_hw23 => k0_hw23

def k0_chk24 (v445 : IVec S16 32) : Prop :=
  (∀ a x, ((![v445] : Fin 1 → IVec S16 32) a x).toNat < S8208.size a)
theorem k0_idx24_inb : ∀ (v445 : IVec S16 32) (k0_hw24 : k0_chk24 v445), ∀ a x, ((![v445] : Fin 1 → IVec S16 32) a x).toNat < S8208.size a := fun v445 k0_hw24 => k0_hw24
@[reducible] def k0_t15_loop : Scf.Loop 32 :=
  let c0_i32_175 : BitVec 32 := 0#32
  let c512_i32_176 : BitVec 32 := 512#32
  let v180 : BitVec 32 := Scalar.addi c0_i32_175 c512_i32_176
  let c1_i32_177 : BitVec 32 := 1#32
  ⟨c0_i32_175, v180, c1_i32_177⟩
def k0_off15 (k0_t15 : Fin k0_t15_loop.trips) : Fin 2 → Nat :=
  let c0_i32_440 : BitVec 32 := 0#32
  let v439 : Index := Scalar.indexCast c0_i32_440
  let c0_i32_439 : BitVec 32 := 0#32
  let c0_i32_175 : BitVec 32 := 0#32
  let c1_i32_177 : BitVec 32 := 1#32
  let arg12 : BitVec 32 := Scf.iv c0_i32_175 c1_i32_177 k0_t15
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk25 (v443 : IVec S16 32) : Prop :=
  (∀ a x, ((![v443] : Fin 1 → IVec S16 32) a x).toNat < S65536.size a)
theorem k0_idx25_inb : ∀ (v443 : IVec S16 32) (k0_hw25 : k0_chk25 v443), ∀ a x, ((![v443] : Fin 1 → IVec S16 32) a x).toNat < S65536.size a := fun v443 k0_hw25 => k0_hw25

def k0_chk26 (v445 : IVec S16 32) : Prop :=
  (∀ a x, ((![v445] : Fin 1 → IVec S16 32) a x).toNat < S8208.size a)
theorem k0_idx26_inb : ∀ (v445 : IVec S16 32) (k0_hw26 : k0_chk26 v445), ∀ a x, ((![v445] : Fin 1 → IVec S16 32) a x).toNat < S8208.size a := fun v445 k0_hw26 => k0_hw26
@[reducible] def k0_t16_loop : Scf.Loop 32 :=
  let c0_i32_188 : BitVec 32 := 0#32
  let c512_i32_189 : BitVec 32 := 512#32
  let v193 : BitVec 32 := Scalar.addi c0_i32_188 c512_i32_189
  let c1_i32_190 : BitVec 32 := 1#32
  ⟨c0_i32_188, v193, c1_i32_190⟩
def k0_off16 (k0_t16 : Fin k0_t16_loop.trips) : Fin 2 → Nat :=
  let c1_i32_440 : BitVec 32 := 1#32
  let v439 : Index := Scalar.indexCast c1_i32_440
  let c0_i32_439 : BitVec 32 := 0#32
  let c0_i32_188 : BitVec 32 := 0#32
  let c1_i32_190 : BitVec 32 := 1#32
  let arg12 : BitVec 32 := Scf.iv c0_i32_188 c1_i32_190 k0_t16
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk27 (v443 : IVec S16 32) : Prop :=
  (∀ a x, ((![v443] : Fin 1 → IVec S16 32) a x).toNat < S65536.size a)
theorem k0_idx27_inb : ∀ (v443 : IVec S16 32) (k0_hw27 : k0_chk27 v443), ∀ a x, ((![v443] : Fin 1 → IVec S16 32) a x).toNat < S65536.size a := fun v443 k0_hw27 => k0_hw27

def k0_chk28 (v445 : IVec S16 32) : Prop :=
  (∀ a x, ((![v445] : Fin 1 → IVec S16 32) a x).toNat < S8208.size a)
theorem k0_idx28_inb : ∀ (v445 : IVec S16 32) (k0_hw28 : k0_chk28 v445), ∀ a x, ((![v445] : Fin 1 → IVec S16 32) a x).toNat < S8208.size a := fun v445 k0_hw28 => k0_hw28
@[reducible] def k0_t17_loop : Scf.Loop 32 :=
  let c0_i32_201 : BitVec 32 := 0#32
  let c512_i32_202 : BitVec 32 := 512#32
  let v206 : BitVec 32 := Scalar.addi c0_i32_201 c512_i32_202
  let c1_i32_203 : BitVec 32 := 1#32
  ⟨c0_i32_201, v206, c1_i32_203⟩
def k0_off17 (k0_t17 : Fin k0_t17_loop.trips) : Fin 2 → Nat :=
  let c0_i32_440 : BitVec 32 := 0#32
  let v439 : Index := Scalar.indexCast c0_i32_440
  let c0_i32_439 : BitVec 32 := 0#32
  let c0_i32_201 : BitVec 32 := 0#32
  let c1_i32_203 : BitVec 32 := 1#32
  let arg12 : BitVec 32 := Scf.iv c0_i32_201 c1_i32_203 k0_t17
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk29 (v443 : IVec S16 32) : Prop :=
  (∀ a x, ((![v443] : Fin 1 → IVec S16 32) a x).toNat < S65536.size a)
theorem k0_idx29_inb : ∀ (v443 : IVec S16 32) (k0_hw29 : k0_chk29 v443), ∀ a x, ((![v443] : Fin 1 → IVec S16 32) a x).toNat < S65536.size a := fun v443 k0_hw29 => k0_hw29

def k0_chk30 (v445 : IVec S16 32) : Prop :=
  (∀ a x, ((![v445] : Fin 1 → IVec S16 32) a x).toNat < S8208.size a)
theorem k0_idx30_inb : ∀ (v445 : IVec S16 32) (k0_hw30 : k0_chk30 v445), ∀ a x, ((![v445] : Fin 1 → IVec S16 32) a x).toNat < S8208.size a := fun v445 k0_hw30 => k0_hw30
@[reducible] def k0_t18_loop : Scf.Loop 32 :=
  let c0_i32_214 : BitVec 32 := 0#32
  let c512_i32_215 : BitVec 32 := 512#32
  let v219 : BitVec 32 := Scalar.addi c0_i32_214 c512_i32_215
  let c1_i32_216 : BitVec 32 := 1#32
  ⟨c0_i32_214, v219, c1_i32_216⟩
def k0_off18 (k0_t18 : Fin k0_t18_loop.trips) : Fin 2 → Nat :=
  let c1_i32_440 : BitVec 32 := 1#32
  let v439 : Index := Scalar.indexCast c1_i32_440
  let c0_i32_439 : BitVec 32 := 0#32
  let c0_i32_214 : BitVec 32 := 0#32
  let c1_i32_216 : BitVec 32 := 1#32
  let arg12 : BitVec 32 := Scf.iv c0_i32_214 c1_i32_216 k0_t18
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk31 (v443 : IVec S16 32) : Prop :=
  (∀ a x, ((![v443] : Fin 1 → IVec S16 32) a x).toNat < S65536.size a)
theorem k0_idx31_inb : ∀ (v443 : IVec S16 32) (k0_hw31 : k0_chk31 v443), ∀ a x, ((![v443] : Fin 1 → IVec S16 32) a x).toNat < S65536.size a := fun v443 k0_hw31 => k0_hw31

def k0_chk32 (v445 : IVec S16 32) : Prop :=
  (∀ a x, ((![v445] : Fin 1 → IVec S16 32) a x).toNat < S8208.size a)
theorem k0_idx32_inb : ∀ (v445 : IVec S16 32) (k0_hw32 : k0_chk32 v445), ∀ a x, ((![v445] : Fin 1 → IVec S16 32) a x).toNat < S8208.size a := fun v445 k0_hw32 => k0_hw32
@[reducible] def k0_t19_loop : Scf.Loop 32 :=
  let c0_i32_227 : BitVec 32 := 0#32
  let c512_i32_228 : BitVec 32 := 512#32
  let v232 : BitVec 32 := Scalar.addi c0_i32_227 c512_i32_228
  let c1_i32_229 : BitVec 32 := 1#32
  ⟨c0_i32_227, v232, c1_i32_229⟩
def k0_off19 (k0_t19 : Fin k0_t19_loop.trips) : Fin 2 → Nat :=
  let c0_i32_440 : BitVec 32 := 0#32
  let v439 : Index := Scalar.indexCast c0_i32_440
  let c0_i32_439 : BitVec 32 := 0#32
  let c0_i32_227 : BitVec 32 := 0#32
  let c1_i32_229 : BitVec 32 := 1#32
  let arg12 : BitVec 32 := Scf.iv c0_i32_227 c1_i32_229 k0_t19
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk33 (v443 : IVec S16 32) : Prop :=
  (∀ a x, ((![v443] : Fin 1 → IVec S16 32) a x).toNat < S65536.size a)
theorem k0_idx33_inb : ∀ (v443 : IVec S16 32) (k0_hw33 : k0_chk33 v443), ∀ a x, ((![v443] : Fin 1 → IVec S16 32) a x).toNat < S65536.size a := fun v443 k0_hw33 => k0_hw33

def k0_chk34 (v445 : IVec S16 32) : Prop :=
  (∀ a x, ((![v445] : Fin 1 → IVec S16 32) a x).toNat < S8208.size a)
theorem k0_idx34_inb : ∀ (v445 : IVec S16 32) (k0_hw34 : k0_chk34 v445), ∀ a x, ((![v445] : Fin 1 → IVec S16 32) a x).toNat < S8208.size a := fun v445 k0_hw34 => k0_hw34
@[reducible] def k0_t20_loop : Scf.Loop 32 :=
  let c0_i32_240 : BitVec 32 := 0#32
  let c512_i32_241 : BitVec 32 := 512#32
  let v245 : BitVec 32 := Scalar.addi c0_i32_240 c512_i32_241
  let c1_i32_242 : BitVec 32 := 1#32
  ⟨c0_i32_240, v245, c1_i32_242⟩
def k0_off20 (k0_t20 : Fin k0_t20_loop.trips) : Fin 2 → Nat :=
  let c1_i32_440 : BitVec 32 := 1#32
  let v439 : Index := Scalar.indexCast c1_i32_440
  let c0_i32_439 : BitVec 32 := 0#32
  let c0_i32_240 : BitVec 32 := 0#32
  let c1_i32_242 : BitVec 32 := 1#32
  let arg12 : BitVec 32 := Scf.iv c0_i32_240 c1_i32_242 k0_t20
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk35 (v443 : IVec S16 32) : Prop :=
  (∀ a x, ((![v443] : Fin 1 → IVec S16 32) a x).toNat < S65536.size a)
theorem k0_idx35_inb : ∀ (v443 : IVec S16 32) (k0_hw35 : k0_chk35 v443), ∀ a x, ((![v443] : Fin 1 → IVec S16 32) a x).toNat < S65536.size a := fun v443 k0_hw35 => k0_hw35

def k0_chk36 (v445 : IVec S16 32) : Prop :=
  (∀ a x, ((![v445] : Fin 1 → IVec S16 32) a x).toNat < S8208.size a)
theorem k0_idx36_inb : ∀ (v445 : IVec S16 32) (k0_hw36 : k0_chk36 v445), ∀ a x, ((![v445] : Fin 1 → IVec S16 32) a x).toNat < S8208.size a := fun v445 k0_hw36 => k0_hw36
@[reducible] def k0_t21_loop : Scf.Loop 32 :=
  let c0_i32_253 : BitVec 32 := 0#32
  let c512_i32_254 : BitVec 32 := 512#32
  let v258 : BitVec 32 := Scalar.addi c0_i32_253 c512_i32_254
  let c1_i32_255 : BitVec 32 := 1#32
  ⟨c0_i32_253, v258, c1_i32_255⟩
def k0_off21 (k0_t21 : Fin k0_t21_loop.trips) : Fin 2 → Nat :=
  let c0_i32_440 : BitVec 32 := 0#32
  let v439 : Index := Scalar.indexCast c0_i32_440
  let c0_i32_439 : BitVec 32 := 0#32
  let c0_i32_253 : BitVec 32 := 0#32
  let c1_i32_255 : BitVec 32 := 1#32
  let arg12 : BitVec 32 := Scf.iv c0_i32_253 c1_i32_255 k0_t21
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk37 (v443 : IVec S16 32) : Prop :=
  (∀ a x, ((![v443] : Fin 1 → IVec S16 32) a x).toNat < S65536.size a)
theorem k0_idx37_inb : ∀ (v443 : IVec S16 32) (k0_hw37 : k0_chk37 v443), ∀ a x, ((![v443] : Fin 1 → IVec S16 32) a x).toNat < S65536.size a := fun v443 k0_hw37 => k0_hw37

def k0_chk38 (v445 : IVec S16 32) : Prop :=
  (∀ a x, ((![v445] : Fin 1 → IVec S16 32) a x).toNat < S8208.size a)
theorem k0_idx38_inb : ∀ (v445 : IVec S16 32) (k0_hw38 : k0_chk38 v445), ∀ a x, ((![v445] : Fin 1 → IVec S16 32) a x).toNat < S8208.size a := fun v445 k0_hw38 => k0_hw38
@[reducible] def k0_t22_loop : Scf.Loop 32 :=
  let c0_i32_266 : BitVec 32 := 0#32
  let c512_i32_267 : BitVec 32 := 512#32
  let v271 : BitVec 32 := Scalar.addi c0_i32_266 c512_i32_267
  let c1_i32_268 : BitVec 32 := 1#32
  ⟨c0_i32_266, v271, c1_i32_268⟩
def k0_off22 (k0_t22 : Fin k0_t22_loop.trips) : Fin 2 → Nat :=
  let c1_i32_440 : BitVec 32 := 1#32
  let v439 : Index := Scalar.indexCast c1_i32_440
  let c0_i32_439 : BitVec 32 := 0#32
  let c0_i32_266 : BitVec 32 := 0#32
  let c1_i32_268 : BitVec 32 := 1#32
  let arg12 : BitVec 32 := Scf.iv c0_i32_266 c1_i32_268 k0_t22
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk39 (v443 : IVec S16 32) : Prop :=
  (∀ a x, ((![v443] : Fin 1 → IVec S16 32) a x).toNat < S65536.size a)
theorem k0_idx39_inb : ∀ (v443 : IVec S16 32) (k0_hw39 : k0_chk39 v443), ∀ a x, ((![v443] : Fin 1 → IVec S16 32) a x).toNat < S65536.size a := fun v443 k0_hw39 => k0_hw39

def k0_chk40 (v445 : IVec S16 32) : Prop :=
  (∀ a x, ((![v445] : Fin 1 → IVec S16 32) a x).toNat < S8208.size a)
theorem k0_idx40_inb : ∀ (v445 : IVec S16 32) (k0_hw40 : k0_chk40 v445), ∀ a x, ((![v445] : Fin 1 → IVec S16 32) a x).toNat < S8208.size a := fun v445 k0_hw40 => k0_hw40
@[reducible] def k0_t23_loop : Scf.Loop 32 :=
  let c0_i32_279 : BitVec 32 := 0#32
  let c512_i32_280 : BitVec 32 := 512#32
  let v284 : BitVec 32 := Scalar.addi c0_i32_279 c512_i32_280
  let c1_i32_281 : BitVec 32 := 1#32
  ⟨c0_i32_279, v284, c1_i32_281⟩
def k0_off23 (k0_t23 : Fin k0_t23_loop.trips) : Fin 2 → Nat :=
  let c0_i32_440 : BitVec 32 := 0#32
  let v439 : Index := Scalar.indexCast c0_i32_440
  let c0_i32_439 : BitVec 32 := 0#32
  let c0_i32_279 : BitVec 32 := 0#32
  let c1_i32_281 : BitVec 32 := 1#32
  let arg12 : BitVec 32 := Scf.iv c0_i32_279 c1_i32_281 k0_t23
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk41 (v443 : IVec S16 32) : Prop :=
  (∀ a x, ((![v443] : Fin 1 → IVec S16 32) a x).toNat < S65536.size a)
theorem k0_idx41_inb : ∀ (v443 : IVec S16 32) (k0_hw41 : k0_chk41 v443), ∀ a x, ((![v443] : Fin 1 → IVec S16 32) a x).toNat < S65536.size a := fun v443 k0_hw41 => k0_hw41

def k0_chk42 (v445 : IVec S16 32) : Prop :=
  (∀ a x, ((![v445] : Fin 1 → IVec S16 32) a x).toNat < S8208.size a)
theorem k0_idx42_inb : ∀ (v445 : IVec S16 32) (k0_hw42 : k0_chk42 v445), ∀ a x, ((![v445] : Fin 1 → IVec S16 32) a x).toNat < S8208.size a := fun v445 k0_hw42 => k0_hw42
@[reducible] def k0_t24_loop : Scf.Loop 32 :=
  let c0_i32_292 : BitVec 32 := 0#32
  let c512_i32_293 : BitVec 32 := 512#32
  let v297 : BitVec 32 := Scalar.addi c0_i32_292 c512_i32_293
  let c1_i32_294 : BitVec 32 := 1#32
  ⟨c0_i32_292, v297, c1_i32_294⟩
def k0_off24 (k0_t24 : Fin k0_t24_loop.trips) : Fin 2 → Nat :=
  let c1_i32_440 : BitVec 32 := 1#32
  let v439 : Index := Scalar.indexCast c1_i32_440
  let c0_i32_439 : BitVec 32 := 0#32
  let c0_i32_292 : BitVec 32 := 0#32
  let c1_i32_294 : BitVec 32 := 1#32
  let arg12 : BitVec 32 := Scf.iv c0_i32_292 c1_i32_294 k0_t24
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk43 (v443 : IVec S16 32) : Prop :=
  (∀ a x, ((![v443] : Fin 1 → IVec S16 32) a x).toNat < S65536.size a)
theorem k0_idx43_inb : ∀ (v443 : IVec S16 32) (k0_hw43 : k0_chk43 v443), ∀ a x, ((![v443] : Fin 1 → IVec S16 32) a x).toNat < S65536.size a := fun v443 k0_hw43 => k0_hw43

def k0_chk44 (v445 : IVec S16 32) : Prop :=
  (∀ a x, ((![v445] : Fin 1 → IVec S16 32) a x).toNat < S8208.size a)
theorem k0_idx44_inb : ∀ (v445 : IVec S16 32) (k0_hw44 : k0_chk44 v445), ∀ a x, ((![v445] : Fin 1 → IVec S16 32) a x).toNat < S8208.size a := fun v445 k0_hw44 => k0_hw44
@[reducible] def k0_t25_loop : Scf.Loop 32 :=
  let c0_i32_305 : BitVec 32 := 0#32
  let c512_i32_306 : BitVec 32 := 512#32
  let v310 : BitVec 32 := Scalar.addi c0_i32_305 c512_i32_306
  let c1_i32_307 : BitVec 32 := 1#32
  ⟨c0_i32_305, v310, c1_i32_307⟩
def k0_off25 (k0_t25 : Fin k0_t25_loop.trips) : Fin 2 → Nat :=
  let c0_i32_440 : BitVec 32 := 0#32
  let v439 : Index := Scalar.indexCast c0_i32_440
  let c0_i32_439 : BitVec 32 := 0#32
  let c0_i32_305 : BitVec 32 := 0#32
  let c1_i32_307 : BitVec 32 := 1#32
  let arg12 : BitVec 32 := Scf.iv c0_i32_305 c1_i32_307 k0_t25
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk45 (v443 : IVec S16 32) : Prop :=
  (∀ a x, ((![v443] : Fin 1 → IVec S16 32) a x).toNat < S65536.size a)
theorem k0_idx45_inb : ∀ (v443 : IVec S16 32) (k0_hw45 : k0_chk45 v443), ∀ a x, ((![v443] : Fin 1 → IVec S16 32) a x).toNat < S65536.size a := fun v443 k0_hw45 => k0_hw45

def k0_chk46 (v445 : IVec S16 32) : Prop :=
  (∀ a x, ((![v445] : Fin 1 → IVec S16 32) a x).toNat < S8208.size a)
theorem k0_idx46_inb : ∀ (v445 : IVec S16 32) (k0_hw46 : k0_chk46 v445), ∀ a x, ((![v445] : Fin 1 → IVec S16 32) a x).toNat < S8208.size a := fun v445 k0_hw46 => k0_hw46
@[reducible] def k0_t26_loop : Scf.Loop 32 :=
  let c0_i32_318 : BitVec 32 := 0#32
  let c512_i32_319 : BitVec 32 := 512#32
  let v323 : BitVec 32 := Scalar.addi c0_i32_318 c512_i32_319
  let c1_i32_320 : BitVec 32 := 1#32
  ⟨c0_i32_318, v323, c1_i32_320⟩
def k0_off26 (k0_t26 : Fin k0_t26_loop.trips) : Fin 2 → Nat :=
  let c1_i32_440 : BitVec 32 := 1#32
  let v439 : Index := Scalar.indexCast c1_i32_440
  let c0_i32_439 : BitVec 32 := 0#32
  let c0_i32_318 : BitVec 32 := 0#32
  let c1_i32_320 : BitVec 32 := 1#32
  let arg12 : BitVec 32 := Scf.iv c0_i32_318 c1_i32_320 k0_t26
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk47 (v443 : IVec S16 32) : Prop :=
  (∀ a x, ((![v443] : Fin 1 → IVec S16 32) a x).toNat < S65536.size a)
theorem k0_idx47_inb : ∀ (v443 : IVec S16 32) (k0_hw47 : k0_chk47 v443), ∀ a x, ((![v443] : Fin 1 → IVec S16 32) a x).toNat < S65536.size a := fun v443 k0_hw47 => k0_hw47

def k0_chk48 (v445 : IVec S16 32) : Prop :=
  (∀ a x, ((![v445] : Fin 1 → IVec S16 32) a x).toNat < S8208.size a)
theorem k0_idx48_inb : ∀ (v445 : IVec S16 32) (k0_hw48 : k0_chk48 v445), ∀ a x, ((![v445] : Fin 1 → IVec S16 32) a x).toNat < S8208.size a := fun v445 k0_hw48 => k0_hw48
@[reducible] def k0_t27_loop : Scf.Loop 32 :=
  let c0_i32_331 : BitVec 32 := 0#32
  let c512_i32_332 : BitVec 32 := 512#32
  let v336 : BitVec 32 := Scalar.addi c0_i32_331 c512_i32_332
  let c1_i32_333 : BitVec 32 := 1#32
  ⟨c0_i32_331, v336, c1_i32_333⟩
def k0_off27 (k0_t27 : Fin k0_t27_loop.trips) : Fin 2 → Nat :=
  let c0_i32_440 : BitVec 32 := 0#32
  let v439 : Index := Scalar.indexCast c0_i32_440
  let c0_i32_439 : BitVec 32 := 0#32
  let c0_i32_331 : BitVec 32 := 0#32
  let c1_i32_333 : BitVec 32 := 1#32
  let arg12 : BitVec 32 := Scf.iv c0_i32_331 c1_i32_333 k0_t27
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk49 (v443 : IVec S16 32) : Prop :=
  (∀ a x, ((![v443] : Fin 1 → IVec S16 32) a x).toNat < S65536.size a)
theorem k0_idx49_inb : ∀ (v443 : IVec S16 32) (k0_hw49 : k0_chk49 v443), ∀ a x, ((![v443] : Fin 1 → IVec S16 32) a x).toNat < S65536.size a := fun v443 k0_hw49 => k0_hw49

def k0_chk50 (v445 : IVec S16 32) : Prop :=
  (∀ a x, ((![v445] : Fin 1 → IVec S16 32) a x).toNat < S8208.size a)
theorem k0_idx50_inb : ∀ (v445 : IVec S16 32) (k0_hw50 : k0_chk50 v445), ∀ a x, ((![v445] : Fin 1 → IVec S16 32) a x).toNat < S8208.size a := fun v445 k0_hw50 => k0_hw50
@[reducible] def k0_t28_loop : Scf.Loop 32 :=
  let c0_i32_344 : BitVec 32 := 0#32
  let c512_i32_345 : BitVec 32 := 512#32
  let v349 : BitVec 32 := Scalar.addi c0_i32_344 c512_i32_345
  let c1_i32_346 : BitVec 32 := 1#32
  ⟨c0_i32_344, v349, c1_i32_346⟩
def k0_off28 (k0_t28 : Fin k0_t28_loop.trips) : Fin 2 → Nat :=
  let c1_i32_440 : BitVec 32 := 1#32
  let v439 : Index := Scalar.indexCast c1_i32_440
  let c0_i32_439 : BitVec 32 := 0#32
  let c0_i32_344 : BitVec 32 := 0#32
  let c1_i32_346 : BitVec 32 := 1#32
  let arg12 : BitVec 32 := Scf.iv c0_i32_344 c1_i32_346 k0_t28
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk51 (v443 : IVec S16 32) : Prop :=
  (∀ a x, ((![v443] : Fin 1 → IVec S16 32) a x).toNat < S65536.size a)
theorem k0_idx51_inb : ∀ (v443 : IVec S16 32) (k0_hw51 : k0_chk51 v443), ∀ a x, ((![v443] : Fin 1 → IVec S16 32) a x).toNat < S65536.size a := fun v443 k0_hw51 => k0_hw51

def k0_chk52 (v445 : IVec S16 32) : Prop :=
  (∀ a x, ((![v445] : Fin 1 → IVec S16 32) a x).toNat < S8208.size a)
theorem k0_idx52_inb : ∀ (v445 : IVec S16 32) (k0_hw52 : k0_chk52 v445), ∀ a x, ((![v445] : Fin 1 → IVec S16 32) a x).toNat < S8208.size a := fun v445 k0_hw52 => k0_hw52
@[reducible] def k0_t29_loop : Scf.Loop 32 :=
  let c0_i32_357 : BitVec 32 := 0#32
  let c512_i32_358 : BitVec 32 := 512#32
  let v362 : BitVec 32 := Scalar.addi c0_i32_357 c512_i32_358
  let c1_i32_359 : BitVec 32 := 1#32
  ⟨c0_i32_357, v362, c1_i32_359⟩
def k0_off29 (k0_t29 : Fin k0_t29_loop.trips) : Fin 2 → Nat :=
  let c0_i32_440 : BitVec 32 := 0#32
  let v439 : Index := Scalar.indexCast c0_i32_440
  let c0_i32_439 : BitVec 32 := 0#32
  let c0_i32_357 : BitVec 32 := 0#32
  let c1_i32_359 : BitVec 32 := 1#32
  let arg12 : BitVec 32 := Scf.iv c0_i32_357 c1_i32_359 k0_t29
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk53 (v443 : IVec S16 32) : Prop :=
  (∀ a x, ((![v443] : Fin 1 → IVec S16 32) a x).toNat < S65536.size a)
theorem k0_idx53_inb : ∀ (v443 : IVec S16 32) (k0_hw53 : k0_chk53 v443), ∀ a x, ((![v443] : Fin 1 → IVec S16 32) a x).toNat < S65536.size a := fun v443 k0_hw53 => k0_hw53

def k0_chk54 (v445 : IVec S16 32) : Prop :=
  (∀ a x, ((![v445] : Fin 1 → IVec S16 32) a x).toNat < S8208.size a)
theorem k0_idx54_inb : ∀ (v445 : IVec S16 32) (k0_hw54 : k0_chk54 v445), ∀ a x, ((![v445] : Fin 1 → IVec S16 32) a x).toNat < S8208.size a := fun v445 k0_hw54 => k0_hw54
@[reducible] def k0_t30_loop : Scf.Loop 32 :=
  let c0_i32_370 : BitVec 32 := 0#32
  let c512_i32_371 : BitVec 32 := 512#32
  let v375 : BitVec 32 := Scalar.addi c0_i32_370 c512_i32_371
  let c1_i32_372 : BitVec 32 := 1#32
  ⟨c0_i32_370, v375, c1_i32_372⟩
def k0_off30 (k0_t30 : Fin k0_t30_loop.trips) : Fin 2 → Nat :=
  let c1_i32_440 : BitVec 32 := 1#32
  let v439 : Index := Scalar.indexCast c1_i32_440
  let c0_i32_439 : BitVec 32 := 0#32
  let c0_i32_370 : BitVec 32 := 0#32
  let c1_i32_372 : BitVec 32 := 1#32
  let arg12 : BitVec 32 := Scf.iv c0_i32_370 c1_i32_372 k0_t30
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk55 (v443 : IVec S16 32) : Prop :=
  (∀ a x, ((![v443] : Fin 1 → IVec S16 32) a x).toNat < S65536.size a)
theorem k0_idx55_inb : ∀ (v443 : IVec S16 32) (k0_hw55 : k0_chk55 v443), ∀ a x, ((![v443] : Fin 1 → IVec S16 32) a x).toNat < S65536.size a := fun v443 k0_hw55 => k0_hw55

def k0_chk56 (v445 : IVec S16 32) : Prop :=
  (∀ a x, ((![v445] : Fin 1 → IVec S16 32) a x).toNat < S8208.size a)
theorem k0_idx56_inb : ∀ (v445 : IVec S16 32) (k0_hw56 : k0_chk56 v445), ∀ a x, ((![v445] : Fin 1 → IVec S16 32) a x).toNat < S8208.size a := fun v445 k0_hw56 => k0_hw56
@[reducible] def k0_t31_loop : Scf.Loop 32 :=
  let c0_i32_383 : BitVec 32 := 0#32
  let c512_i32_384 : BitVec 32 := 512#32
  let v388 : BitVec 32 := Scalar.addi c0_i32_383 c512_i32_384
  let c1_i32_385 : BitVec 32 := 1#32
  ⟨c0_i32_383, v388, c1_i32_385⟩
def k0_off31 (k0_t31 : Fin k0_t31_loop.trips) : Fin 2 → Nat :=
  let c0_i32_440 : BitVec 32 := 0#32
  let v439 : Index := Scalar.indexCast c0_i32_440
  let c0_i32_439 : BitVec 32 := 0#32
  let c0_i32_383 : BitVec 32 := 0#32
  let c1_i32_385 : BitVec 32 := 1#32
  let arg12 : BitVec 32 := Scf.iv c0_i32_383 c1_i32_385 k0_t31
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk57 (v443 : IVec S16 32) : Prop :=
  (∀ a x, ((![v443] : Fin 1 → IVec S16 32) a x).toNat < S65536.size a)
theorem k0_idx57_inb : ∀ (v443 : IVec S16 32) (k0_hw57 : k0_chk57 v443), ∀ a x, ((![v443] : Fin 1 → IVec S16 32) a x).toNat < S65536.size a := fun v443 k0_hw57 => k0_hw57

def k0_chk58 (v445 : IVec S16 32) : Prop :=
  (∀ a x, ((![v445] : Fin 1 → IVec S16 32) a x).toNat < S8208.size a)
theorem k0_idx58_inb : ∀ (v445 : IVec S16 32) (k0_hw58 : k0_chk58 v445), ∀ a x, ((![v445] : Fin 1 → IVec S16 32) a x).toNat < S8208.size a := fun v445 k0_hw58 => k0_hw58
@[reducible] def k0_t32_loop : Scf.Loop 32 :=
  let c0_i32_396 : BitVec 32 := 0#32
  let c512_i32_397 : BitVec 32 := 512#32
  let v401 : BitVec 32 := Scalar.addi c0_i32_396 c512_i32_397
  let c1_i32_398 : BitVec 32 := 1#32
  ⟨c0_i32_396, v401, c1_i32_398⟩
def k0_off32 (k0_t32 : Fin k0_t32_loop.trips) : Fin 2 → Nat :=
  let c1_i32_440 : BitVec 32 := 1#32
  let v439 : Index := Scalar.indexCast c1_i32_440
  let c0_i32_439 : BitVec 32 := 0#32
  let c0_i32_396 : BitVec 32 := 0#32
  let c1_i32_398 : BitVec 32 := 1#32
  let arg12 : BitVec 32 := Scf.iv c0_i32_396 c1_i32_398 k0_t32
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk59 (v443 : IVec S16 32) : Prop :=
  (∀ a x, ((![v443] : Fin 1 → IVec S16 32) a x).toNat < S65536.size a)
theorem k0_idx59_inb : ∀ (v443 : IVec S16 32) (k0_hw59 : k0_chk59 v443), ∀ a x, ((![v443] : Fin 1 → IVec S16 32) a x).toNat < S65536.size a := fun v443 k0_hw59 => k0_hw59

def k0_chk60 (v445 : IVec S16 32) : Prop :=
  (∀ a x, ((![v445] : Fin 1 → IVec S16 32) a x).toNat < S8208.size a)
theorem k0_idx60_inb : ∀ (v445 : IVec S16 32) (k0_hw60 : k0_chk60 v445), ∀ a x, ((![v445] : Fin 1 → IVec S16 32) a x).toNat < S8208.size a := fun v445 k0_hw60 => k0_hw60
@[reducible] def k0_t33_loop : Scf.Loop 32 :=
  let c0_i32_409 : BitVec 32 := 0#32
  let c512_i32_410 : BitVec 32 := 512#32
  let v414 : BitVec 32 := Scalar.addi c0_i32_409 c512_i32_410
  let c1_i32_411 : BitVec 32 := 1#32
  ⟨c0_i32_409, v414, c1_i32_411⟩
def k0_off33 (k0_t33 : Fin k0_t33_loop.trips) : Fin 2 → Nat :=
  let c0_i32_440 : BitVec 32 := 0#32
  let v439 : Index := Scalar.indexCast c0_i32_440
  let c0_i32_439 : BitVec 32 := 0#32
  let c0_i32_409 : BitVec 32 := 0#32
  let c1_i32_411 : BitVec 32 := 1#32
  let arg12 : BitVec 32 := Scf.iv c0_i32_409 c1_i32_411 k0_t33
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk61 (v443 : IVec S16 32) : Prop :=
  (∀ a x, ((![v443] : Fin 1 → IVec S16 32) a x).toNat < S65536.size a)
theorem k0_idx61_inb : ∀ (v443 : IVec S16 32) (k0_hw61 : k0_chk61 v443), ∀ a x, ((![v443] : Fin 1 → IVec S16 32) a x).toNat < S65536.size a := fun v443 k0_hw61 => k0_hw61

def k0_chk62 (v445 : IVec S16 32) : Prop :=
  (∀ a x, ((![v445] : Fin 1 → IVec S16 32) a x).toNat < S8208.size a)
theorem k0_idx62_inb : ∀ (v445 : IVec S16 32) (k0_hw62 : k0_chk62 v445), ∀ a x, ((![v445] : Fin 1 → IVec S16 32) a x).toNat < S8208.size a := fun v445 k0_hw62 => k0_hw62
@[reducible] def k0_t34_loop : Scf.Loop 32 :=
  let c0_i32_422 : BitVec 32 := 0#32
  let c512_i32_423 : BitVec 32 := 512#32
  let v427 : BitVec 32 := Scalar.addi c0_i32_422 c512_i32_423
  let c1_i32_424 : BitVec 32 := 1#32
  ⟨c0_i32_422, v427, c1_i32_424⟩
def k0_off34 (k0_t34 : Fin k0_t34_loop.trips) : Fin 2 → Nat :=
  let c1_i32_440 : BitVec 32 := 1#32
  let v439 : Index := Scalar.indexCast c1_i32_440
  let c0_i32_439 : BitVec 32 := 0#32
  let c0_i32_422 : BitVec 32 := 0#32
  let c1_i32_424 : BitVec 32 := 1#32
  let arg12 : BitVec 32 := Scf.iv c0_i32_422 c1_i32_424 k0_t34
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![1, v440.toNat]

def k0_chk63 (v443 : IVec S16 32) : Prop :=
  (∀ a x, ((![v443] : Fin 1 → IVec S16 32) a x).toNat < S65536.size a)
theorem k0_idx63_inb : ∀ (v443 : IVec S16 32) (k0_hw63 : k0_chk63 v443), ∀ a x, ((![v443] : Fin 1 → IVec S16 32) a x).toNat < S65536.size a := fun v443 k0_hw63 => k0_hw63

def k0_chk64 (v445 : IVec S16 32) : Prop :=
  (∀ a x, ((![v445] : Fin 1 → IVec S16 32) a x).toNat < S8208.size a)
theorem k0_idx64_inb : ∀ (v445 : IVec S16 32) (k0_hw64 : k0_chk64 v445), ∀ a x, ((![v445] : Fin 1 → IVec S16 32) a x).toNat < S8208.size a := fun v445 k0_hw64 => k0_hw64
@[reducible] def k0_t35_loop : Scf.Loop 32 :=
  let c0_i32_431 : BitVec 32 := 0#32
  let c512_i32_432 : BitVec 32 := 512#32
  let v434 : BitVec 32 := Scalar.addi c0_i32_431 c512_i32_432
  let c1_i32_433 : BitVec 32 := 1#32
  ⟨c0_i32_431, v434, c1_i32_433⟩
def k0_off35 (k0_t35 : Fin k0_t35_loop.trips) : Fin 2 → Nat :=
  let c0_i32_440 : BitVec 32 := 0#32
  let v439 : Index := Scalar.indexCast c0_i32_440
  let c0_i32_439 : BitVec 32 := 0#32
  let c0_i32_431 : BitVec 32 := 0#32
  let c1_i32_433 : BitVec 32 := 1#32
  let arg12 : BitVec 32 := Scf.iv c0_i32_431 c1_i32_433 k0_t35
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v440 : Index := Scalar.indexCast v438
  ![0, v440.toNat]

def k0_chk65 (v443 : IVec S16 32) : Prop :=
  (∀ a x, ((![v443] : Fin 1 → IVec S16 32) a x).toNat < S65536.size a)
theorem k0_idx65_inb : ∀ (v443 : IVec S16 32) (k0_hw65 : k0_chk65 v443), ∀ a x, ((![v443] : Fin 1 → IVec S16 32) a x).toNat < S65536.size a := fun v443 k0_hw65 => k0_hw65

def k0_chk66 (v445 : IVec S16 32) : Prop :=
  (∀ a x, ((![v445] : Fin 1 → IVec S16 32) a x).toNat < S8208.size a)
theorem k0_idx66_inb : ∀ (v445 : IVec S16 32) (k0_hw66 : k0_chk66 v445), ∀ a x, ((![v445] : Fin 1 → IVec S16 32) a x).toNat < S8208.size a := fun v445 k0_hw66 => k0_hw66
@[reducible] def k0_t36_loop : Scf.Loop 32 :=
  let c0_i32_435 : BitVec 32 := 0#32
  let c256_i32 : BitVec 32 := 256#32
  let v435 : BitVec 32 := Scalar.addi c0_i32_435 c256_i32
  let c1_i32_436 : BitVec 32 := 1#32
  ⟨c0_i32_435, v435, c1_i32_436⟩
def k0_off36 (k0_t36 : Fin k0_t36_loop.trips) : Fin 1 → Nat :=
  let c0_i32_439 : BitVec 32 := 0#32
  let c0_i32_435 : BitVec 32 := 0#32
  let c1_i32_436 : BitVec 32 := 1#32
  let arg12 : BitVec 32 := Scf.iv c0_i32_435 c1_i32_436 k0_t36
  let c1_i32_438 : BitVec 32 := 1#32
  let v436 : BitVec 32 := Scalar.muli arg12 c1_i32_438
  let v437 : BitVec 32 := Scalar.addi c0_i32_439 v436
  let c16_i32 : BitVec 32 := 16#32
  let v438 : BitVec 32 := Scalar.muli v437 c16_i32
  let v439 : Index := Scalar.indexCast v438
  ![v439.toNat]
def k0_off37 (k0_t36 : Fin k0_t36_loop.trips) : Fin 1 → Nat :=
  let c4096_i32 : BitVec 32 := 4096#32
  let c0_i32_439 : BitVec 32 := 0#32
  let c0_i32_435 : BitVec 32 := 0#32
  let c1_i32_436 : BitVec 32 := 1#32
  let arg12 : BitVec 32 := Scf.iv c0_i32_435 c1_i32_436 k0_t36
  let c1_i32_438 : BitVec 32 := 1#32
  let v436 : BitVec 32 := Scalar.muli arg12 c1_i32_438
  let v437 : BitVec 32 := Scalar.addi c0_i32_439 v436
  let c16_i32_440 : BitVec 32 := 16#32
  let v441 : BitVec 32 := Scalar.muli v437 c16_i32_440
  let v442 : BitVec 32 := Scalar.addi c4096_i32 v441
  let v443 : Index := Scalar.indexCast v442
  ![v443.toNat]
def k0_off38 (k0_t36 : Fin k0_t36_loop.trips) : Fin 1 → Nat :=
  let c0_i32_439 : BitVec 32 := 0#32
  let c0_i32_435 : BitVec 32 := 0#32
  let c1_i32_436 : BitVec 32 := 1#32
  let arg12 : BitVec 32 := Scf.iv c0_i32_435 c1_i32_436 k0_t36
  let c1_i32_438 : BitVec 32 := 1#32
  let v436 : BitVec 32 := Scalar.muli arg12 c1_i32_438
  let v437 : BitVec 32 := Scalar.addi c0_i32_439 v436
  let c16_i32_441 : BitVec 32 := 16#32
  let v448 : BitVec 32 := Scalar.muli v437 c16_i32_441
  let v449 : Index := Scalar.indexCast v448
  ![v449.toNat]
def k0_off39 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v3 : BitVec 32 := Scalar.muli v1 c8_i32_2
  let c0_i32_0 : BitVec 32 := 0#32
  let c1_i32 : BitVec 32 := 1#32
  let arg11 : BitVec 32 := Scf.iv c0_i32_0 c1_i32 k0_t1
  let v4 : BitVec 32 := Scalar.addi v3 arg11
  let c0_i32_438_r1 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x65536 : Shape := ⟨2, ![256, 65536]⟩
abbrev S268435 : Shape := ⟨1, ![268435]⟩
abbrev S_ : Shape := ⟨0, ![]⟩
abbrev S268435x1 : Shape := ⟨2, ![268435, 1]⟩
abbrev S1 : Shape := ⟨1, ![1]⟩
abbrev S1x1 : Shape := ⟨2, ![1, 1]⟩
abbrev S256x268435 : Shape := ⟨2, ![256, 268435]⟩
abbrev S1x268435 : Shape := ⟨2, ![1, 268435]⟩
abbrev S268435x256 : Shape := ⟨2, ![268435, 256]⟩
abbrev S4096x256 : Shape := ⟨2, ![4096, 256]⟩
abbrev S256x4096 : Shape := ⟨2, ![256, 4096]⟩

abbrev nBuf : Space → Nat
  | .hbm => 36
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S268435, .i32⟩
  | .hbm, ⟨2, _⟩ => ⟨S268435, .i32⟩
  | .hbm, ⟨3, _⟩ => ⟨S268435, .f32⟩
  | .hbm, ⟨4, _⟩ => ⟨S_, .i32⟩
  | .hbm, ⟨5, _⟩ => ⟨S268435, .i32⟩
  | .hbm, ⟨6, _⟩ => ⟨S268435, .i1⟩
  | .hbm, ⟨7, _⟩ => ⟨S_, .i32⟩
  | .hbm, ⟨8, _⟩ => ⟨S268435, .i32⟩
  | .hbm, ⟨9, _⟩ => ⟨S268435, .i32⟩
  | .hbm, ⟨10, _⟩ => ⟨S268435, .i32⟩
  | .hbm, ⟨11, _⟩ => ⟨S268435x1, .i32⟩
  | .hbm, ⟨12, _⟩ => ⟨S1, .i32⟩
  | .hbm, ⟨13, _⟩ => ⟨S_, .i32⟩
  | .hbm, ⟨14, _⟩ => ⟨S268435x1, .i32⟩
  | .hbm, ⟨15, _⟩ => ⟨S268435x1, .i1⟩
  | .hbm, ⟨16, _⟩ => ⟨S1x1, .i32⟩
  | .hbm, ⟨17, _⟩ => ⟨S268435x1, .i32⟩
  | .hbm, ⟨18, _⟩ => ⟨S268435x1, .i1⟩
  | .hbm, ⟨19, _⟩ => ⟨S268435x1, .i1⟩
  | .hbm, ⟨20, _⟩ => ⟨S_, .i1⟩
  | .hbm, ⟨21, _⟩ => ⟨S268435, .i1⟩
  | .hbm, ⟨22, _⟩ => ⟨S256x268435, .f32⟩
  | .hbm, ⟨23, _⟩ => ⟨S256x268435, .i1⟩
  | .hbm, ⟨24, _⟩ => ⟨S_, .f32⟩
  | .hbm, ⟨25, _⟩ => ⟨S256x268435, .f32⟩
  | .hbm, ⟨26, _⟩ => ⟨S256x268435, .f32⟩
  | .hbm, ⟨27, _⟩ => ⟨S1x268435, .f32⟩
  | .hbm, ⟨28, _⟩ => ⟨S256x268435, .f32⟩
  | .hbm, ⟨29, _⟩ => ⟨S256x268435, .f32⟩
  | .hbm, ⟨30, _⟩ => ⟨S268435x256, .f32⟩
  | .hbm, ⟨31, _⟩ => ⟨S_, .f32⟩
  | .hbm, ⟨32, _⟩ => ⟨S4096x256, .f32⟩
  | .hbm, ⟨33, _⟩ => ⟨S268435x1, .i32⟩
  | .hbm, ⟨34, _⟩ => ⟨S4096x256, .f32⟩
  | .hbm, ⟨35, _⟩ => ⟨S256x4096, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩

abbrev nD : Nat := 1
abbrev τ : Topo := Topo.v7x

variable {F : FTy → Type} [FloatOps F]
-- ==== Proof.Parts.lean ====
/-
  The kernel's row body in three shapes. Its text is cut into seventeen parts: the first loads a row of `X`, clears
  the sums and starts the first two chunks of packed words; the next fifteen each work through two chunks, all by one
  text but for the numbers of the chunks; the last works through the three chunks left and combines the sums. Here
  the fifteen are stated to be one program at fifteen chunk numbers.
-/
module

public import proofs.«01_k».proof.Proof.Gen.KernelIdeal
public import proofs.«01_k».proof.Proof.Gen.KernelIdeal.Skeleton

@[expose] public section

noncomputable section

namespace Cert.Proof.Parts

open Cert.KernelIdeal Cert.KernelIdeal.Gen
open Idealize.ShloMosaic Idealize.SL.Sem

variable {F : FTy → Type} [FloatOps F]

/-- Chunk `n` of the packed words lies within them. -/
theorem chunk_inb (n : ℕ) (h : n < 33) : ∀ a, (![8192 * n] : Fin 1 → ℕ) a + S8192.size a ≤ S270336.size a := by
  intro a
  match a with
  | 0 => show 8192 * n + 8192 ≤ 270336; omega

/-- Chunk `n` of the packed words in main memory. -/
abbrev chunkM (p : Memref sig .scVector .hbm S270336 .i32) (n : ℕ) (h : n < 33) : Memref sig .scVector .hbm S8192 .i32 :=
  p.slice (Rect.unit (s := S270336) ![8192 * n] S8192.size (chunk_inb n h)) (fun _ => rfl)
/-- The first half of the chunk buffer. -/
abbrev slotM0 (b : Memref sig .scVector .vmem S2x8192 .i32) : Memref sig .scVector .vmem S8192 .i32 :=
  (b.slice (Rect.unit (s := S2x8192) ![0, 0] S1x8192.size inb_S2x8192_S1x8192_0_0) (fun _ => rfl)).squeeze S8192 squeezes_S1x8192_S8192
/-- The second half of the chunk buffer. -/
abbrev slotM1 (b : Memref sig .scVector .vmem S2x8192 .i32) : Memref sig .scVector .vmem S8192 .i32 :=
  (b.slice (Rect.unit (s := S2x8192) ![1, 0] S1x8192.size inb_S2x8192_S1x8192_1_0) (fun _ => rfl)).squeeze S8192 squeezes_S1x8192_S8192

section
variable (i : grid0.Coords) (arg2 : Memref sig .scVector .hbm S256x65536 .f32) (harg2 : arg2.IsWhole) (arg3 : Memref sig .scVector .hbm S270336 .i32) (harg3 : arg3.IsWhole) (arg4 : Memref sig .scVector .hbm S256x4096 .f32) (harg4 : arg4.IsWhole) (arg5 : Memref sig .scVector .vmem S2x8192 .i32) (harg5 : arg5.IsWhole) (arg6 : Memref sig .scVector .vmem S65536 .f32) (harg6 : arg6.IsWhole) (arg7 : Memref sig .scVector .vmem S8208 .f32) (harg7 : arg7.IsWhole) (arg8 : Memref sig .scVector .vmem S4096 .f32) (harg8 : arg8.IsWhole) (arg9 : DmaSems sig S_) (arg10 : DmaSems sig S_) (v436_r0 : DmaSems sig S_) (v436_r1 : DmaSems sig S_)

/-- The work on the first half of the chunk buffer. -/
abbrev work0 : Prog (TpuEff nD τ sig (Elt F) Λ₀ (.scVector ((i 0).castLE hcore0) ((i 1).castLE hsub0))) Unit :=
  Scf.Loop.for k0_t3_loop k0_t3_ok ⟨⟩ (k0_t3_body i arg2 harg2 arg3 harg3 arg4 harg4 arg5 harg5 arg6 harg6 arg7 harg7 arg8 harg8 arg9 arg10 v436_r0 v436_r1)
/-- The work on the second half of the chunk buffer. -/
abbrev work1 : Prog (TpuEff nD τ sig (Elt F) Λ₀ (.scVector ((i 0).castLE hcore0) ((i 1).castLE hsub0))) Unit :=
  Scf.Loop.for k0_t4_loop k0_t4_ok ⟨⟩ (k0_t4_body i arg2 harg2 arg3 harg3 arg4 harg4 arg5 harg5 arg6 harg6 arg7 harg7 arg8 harg8 arg9 arg10 v436_r0 v436_r1)

/-- Two chunks' work: chunk `2 n` in the first half, chunk `2 n + 1` in the second; chunks `2 n + 2` and `2 n + 3`
    started meanwhile, the first of them waited for. -/
def pair (n : ℕ) (h : 2 * n + 3 < 33) : Prog (TpuEff nD τ sig (Elt F) Λ₀ (.scVector ((i 0).castLE hcore0) ((i 1).castLE hsub0))) PUnit := do
  work0 i arg2 harg2 arg3 harg3 arg4 harg4 arg5 harg5 arg6 harg6 arg7 harg7 arg8 harg8 arg9 arg10 v436_r0 v436_r1
  Prog.lift (.enqueueDma (chunkM arg3 (2 * n + 2) (by omega)) (.here (slotM0 arg5)) (.dma arg9.sem) (View.wordExact_bits rfl) ((View.wordExact_bits rfl).reshape _ _) ⟨Or.inl rfl, trivial⟩)
  Prog.lift (.waitDma2 arg10.sem (chunkM arg3 (2 * n + 1) (by omega)) (slotM1 arg5) (View.wordExact_bits rfl) ((View.wordExact_bits rfl).reshape _ _))
  work1 i arg2 harg2 arg3 harg3 arg4 harg4 arg5 harg5 arg6 harg6 arg7 harg7 arg8 harg8 arg9 arg10 v436_r0 v436_r1
  Prog.lift (.enqueueDma (chunkM arg3 (2 * n + 3) (by omega)) (.here (slotM1 arg5)) (.dma arg10.sem) (View.wordExact_bits rfl) ((View.wordExact_bits rfl).reshape _ _) ⟨Or.inl rfl, trivial⟩)
  Prog.lift (.waitDma2 arg9.sem (chunkM arg3 (2 * n + 2) (by omega)) (slotM0 arg5) (View.wordExact_bits rfl) ((View.wordExact_bits rfl).reshape _ _))
  pure ⟨⟩

/-- The last part's second loop over chunks, and the row's end. -/
def last : Prog (TpuEff nD τ sig (Elt F) Λ₀ (.scVector ((i 0).castLE hcore0) ((i 1).castLE hsub0))) PUnit := do
  work0 i arg2 harg2 arg3 harg3 arg4 harg4 arg5 harg5 arg6 harg6 arg7 harg7 arg8 harg8 arg9 arg10 v436_r0 v436_r1
  Prog.lift (.enqueueDma (chunkM arg3 32 (by omega)) (.here (slotM0 arg5)) (.dma arg9.sem) (View.wordExact_bits rfl) ((View.wordExact_bits rfl).reshape _ _) ⟨Or.inl rfl, trivial⟩)
  Prog.lift (.waitDma2 arg10.sem (chunkM arg3 31 (by omega)) (slotM1 arg5) (View.wordExact_bits rfl) ((View.wordExact_bits rfl).reshape _ _))
  work1 i arg2 harg2 arg3 harg3 arg4 harg4 arg5 harg5 arg6 harg6 arg7 harg7 arg8 harg8 arg9 arg10 v436_r0 v436_r1
  Prog.lift (.waitDma2 arg9.sem (chunkM arg3 32 (by omega)) (slotM0 arg5) (View.wordExact_bits rfl) ((View.wordExact_bits rfl).reshape _ _))
  work0 i arg2 harg2 arg3 harg3 arg4 harg4 arg5 harg5 arg6 harg6 arg7 harg7 arg8 harg8 arg9 arg10 v436_r0 v436_r1
  Scf.Loop.for k0_t36_loop k0_t36_ok ⟨⟩ (k0_t36_body i arg2 harg2 arg3 harg3 arg4 harg4 arg5 harg5 arg6 harg6 arg7 harg7 arg8 harg8 arg9 arg10 v436_r0 v436_r1)
  pure ⟨⟩

set_option maxRecDepth 65536
set_option maxHeartbeats 4000000

/-- The last part, its chunks' numbers named. -/
theorem part17_eq : k0_part17 (F := F) i arg2 harg2 arg3 harg3 arg4 harg4 arg5 harg5 arg6 harg6 arg7 harg7 arg8 harg8 arg9 arg10 v436_r0 v436_r1
    = last i arg2 harg2 arg3 harg3 arg4 harg4 arg5 harg5 arg6 harg6 arg7 harg7 arg8 harg8 arg9 arg10 v436_r0 v436_r1 := by
  rw [k0_part17_eq_skeleton]; rfl

theorem part2_eq : k0_part2 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 0 (by decide) := by
  rw [k0_part2_eq_skeleton]; rfl
theorem part3_eq : k0_part3 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 1 (by decide) := by
  rw [k0_part3_eq_skeleton]; rfl
theorem part4_eq : k0_part4 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 2 (by decide) := by
  rw [k0_part4_eq_skeleton]; rfl
theorem part5_eq : k0_part5 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 3 (by decide) := by
  rw [k0_part5_eq_skeleton]; rfl
theorem part6_eq : k0_part6 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 4 (by decide) := by
  rw [k0_part6_eq_skeleton]; rfl
theorem part7_eq : k0_part7 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 5 (by decide) := by
  rw [k0_part7_eq_skeleton]; rfl
theorem part8_eq : k0_part8 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 6 (by decide) := by
  rw [k0_part8_eq_skeleton]; rfl
theorem part9_eq : k0_part9 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 7 (by decide) := by
  rw [k0_part9_eq_skeleton]; rfl
theorem part10_eq : k0_part10 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 8 (by decide) := by
  rw [k0_part10_eq_skeleton]; rfl
theorem part11_eq : k0_part11 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 9 (by decide) := by
  rw [k0_part11_eq_skeleton]; rfl
theorem part12_eq : k0_part12 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 10 (by decide) := by
  rw [k0_part12_eq_skeleton]; rfl
theorem part13_eq : k0_part13 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 11 (by decide) := by
  rw [k0_part13_eq_skeleton]; rfl
theorem part14_eq : k0_part14 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 12 (by decide) := by
  rw [k0_part14_eq_skeleton]; rfl
theorem part15_eq : k0_part15 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 13 (by decide) := by
  rw [k0_part15_eq_skeleton]; rfl
theorem part16_eq : k0_part16 (F := F) i arg2 harg2 arg3 harg3 arg4 harg4 arg5 harg5 arg6 harg6 arg7 harg7 arg8 harg8 arg9 arg10 v436_r0 v436_r1
    = pair i arg2 harg2 arg3 harg3 arg4 harg4 arg5 harg5 arg6 harg6 arg7 harg7 arg8 harg8 arg9 arg10 v436_r0 v436_r1 14 (by decide) := by
  rw [k0_part16_eq_skeleton]; rfl

end

end Cert.Proof.Parts

end
-- ==== Proof.Vals.lean ====
/-
  What the kernel computes, as functions of a row of `X` and of the packed words: the sums after so many groups of
  sixteen words (`acc`), a result row (`outRow`), and what each view the kernel addresses reads and writes in
  coordinates.
-/
module

public import proofs.«01_k».proof.Proof.Parts
public import Idealize.ShloMosaic.Lib.Pointwise
public import Idealize.ShloMosaic.Lib.Pointwise.Reshape

@[expose] public section

noncomputable section

namespace Cert.Proof.Vals

open Cert.KernelIdeal Cert.KernelIdeal.Gen Cert.Proof.Parts
open Idealize.ShloMosaic Idealize.SL.Sem

variable {F : FTy → Type} [FloatOps F]

/-! ## The packed words -/

/-- Word `k` of the packed words, zero past their end. -/
def word (p : S270336.Idx → BitVec 32) (k : ℕ) : BitVec 32 := if h : k < 270336 then p (ix1 ⟨k, h⟩) else 0#32

/-- Every packed word names a place among the sums. -/
def WordsOK (p : S270336.Idx → BitVec 32) : Prop := ∀ j, (IntOp.shrsi .vector (p j) 16#32).toNat < 8208

theorem word_eq (p : S270336.Idx → BitVec 32) (j : S270336.Idx) : word p (j 0).val = p j := by
  unfold word
  rw [dif_pos (show (j 0).val < 270336 from (j 0).isLt)]
  exact congrArg p (by funext a; match a with | 0 => rfl)

theorem word_row {p : S270336.Idx → BitVec 32} (hp : WordsOK p) (k : ℕ) : (IntOp.shrsi .vector (word p k) 16#32).toNat < 8208 := by
  unfold word
  split
  · exact hp _
  · decide

theorem word_col (w : BitVec 32) : (IntOp.andi w 65535#32).toNat < 65536 := by
  show (w &&& 65535#32).toNat < 65536
  rw [BitVec.toNat_and]
  exact lt_of_le_of_lt Nat.and_le_right (by decide)

/-- The sixteen words of group `t`, as the kernel loads them. -/
def lanes (p : S270336.Idx → BitVec 32) (t : ℕ) : Vec F S1x16 .i32 := fun x => word p (16 * t + (x 1).val)

theorem cast16 (v : Vec F S1x16 .i32) (x : S16.Idx) : shapeCast S16 v shapeCasts_S1x16_S16 x = v (ix2 0 (x 0)) := by
  simp only [pointwise]

theorem pay3_apply (v : Vec F S1x16 .i32) (x : S16.Idx) : k0_pay3 (F := F) v x = IntOp.andi (v (ix2 0 (x 0))) 65535#32 :=
  congrArg (fun w => IntOp.andi w 65535#32) (cast16 v x)
theorem pay4_apply (v : Vec F S1x16 .i32) (x : S16.Idx) : k0_pay4 (F := F) v x = IntOp.shrsi .vector (v (ix2 0 (x 0))) 16#32 :=
  congrArg (fun w => IntOp.shrsi .vector w 16#32) (cast16 v x)

theorem chk1_of (v : Vec F S1x16 .i32) : k0_chk1 (k0_pay3 (F := F) v) := by
  intro a x
  match a with
  | 0 => show (k0_pay3 (F := F) v x).toNat < 65536; rw [pay3_apply]; exact word_col _
theorem chk2_of {p : S270336.Idx → BitVec 32} (hp : WordsOK p) (t : ℕ) : k0_chk2 (k0_pay4 (F := F) (lanes (F := F) p t)) := by
  intro a x
  match a with
  | 0 => show (k0_pay4 (F := F) (lanes (F := F) p t) x).toNat < 8208; rw [pay4_apply]; exact word_row hp _

/-! ## The sums -/

/-- The sums after `t` groups of words: from all zeros, each group's sixteen words' elements of the row `x` added at
    the places the words name. -/
def acc {p : S270336.Idx → BitVec 32} (hp : WordsOK p) (x : S65536.Idx → F .f32) : ℕ → (S8208.Idx → F .f32)
  | 0 => fun _ => Scalar.ofBits .f32 0x00000000#32
  | t + 1 => storeIdx (F := F) (s := S8208) (e := .f32) (acc hp x t) ![k0_pay4 (F := F) (lanes (F := F) p t)]
      (loadIdx (F := F) (s := S65536) (e := .f32) x ![k0_pay3 (F := F) (lanes (F := F) p t)] (k0_idx1_inb _ (chk1_of (F := F) (lanes (F := F) p t)))) (fun _ => 1#1) true
      (k0_idx2_inb _ (chk2_of hp t))

/-- The difference of two sums, scaled. -/
def comb (a b : F .f32) : F .f32 := FloatOps.mulf (FloatOps.subf a b) (Scalar.ofBits .f32 0x3EFCFB72#32)

theorem pay101_apply (u v : Vec F S16 .f32) (x : S16.Idx) : k0_pay101 u v x = comb (F := F) (u x) (v x) := rfl
theorem pay1_apply (x : S16.Idx) : k0_pay1 (F := F) x = Scalar.ofBits .f32 0x00000000#32 := rfl

/-- A result row from the sums. -/
def outRow (s : S8208.Idx → F .f32) : S4096.Idx → F .f32 := fun j =>
  comb (s (ix1 ⟨(j 0).val, by have := (j 0).isLt; change _ < 4096 at this; omega⟩))
    (s (ix1 ⟨4096 + (j 0).val, by have := (j 0).isLt; change _ < 4096 at this; omega⟩))

/-- Row `b` of `X`. -/
def rowOf (X : S256x65536.Idx → F .f32) (b : Fin 256) : S65536.Idx → F .f32 := fun k => X (ix2 b (k 0))

/-- The whole result. -/
def outAll {p : S270336.Idx → BitVec 32} (hp : WordsOK p) (X : S256x65536.Idx → F .f32) : S256x4096.Idx → F .f32 := fun j =>
  outRow (acc hp (rowOf X (j 0)) 16896) (ix1 (j 1))

/-- Chunk `n` of the packed words as either half of the chunk buffer holds it. -/
def chunkBuf (p : S270336.Idx → BitVec 32) (n : ℕ) : S2x8192.Idx → BitVec 32 := fun j => word p (8192 * n + (j 1).val)

/-! ## The views in coordinates -/

theorem unrow (h : S65536.numel = S1x65536.numel) (x : S65536.Idx) : Shape.reshapeEquiv h x = ix2 0 (x 0) := by
  have e : shapeCast S65536 (fun y : S1x65536.Idx => y) (by decide) x = ix2 0 (x 0) := by simp only [pointwise]
  exact e
theorem unslot (h : S8192.numel = S1x8192.numel) (x : S8192.Idx) : Shape.reshapeEquiv h x = ix2 0 (x 0) := by
  have e : shapeCast S8192 (fun y : S1x8192.Idx => y) (by decide) x = ix2 0 (x 0) := by simp only [pointwise]
  exact e
theorem unout (h : S4096.numel = S1x4096.numel) (x : S4096.Idx) : Shape.reshapeEquiv h x = ix2 0 (x 0) := by
  have e : shapeCast S4096 (fun y : S1x4096.Idx => y) (by decide) x = ix2 0 (x 0) := by simp only [pointwise]
  exact e

end Cert.Proof.Vals

end
-- ==== Proof.Tile.lean ====
/-
  One tile's loops and transfers, each with the contents it leaves: a group of sixteen words loaded, checked, gathered
  by and scattered by; a chunk's 512 groups; a chunk's transfer started and waited for.
-/
module

public import proofs.«01_k».proof.Defs
public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Proof.Tile

open Cert.KernelIdeal Cert.KernelIdeal.Gen Cert.Proof.Parts Cert.Proof.Vals

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and its ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xV" => (Memref.whole Cert.KernelIdeal.main_arg0_scv : Memref Cert.KernelIdeal.sig Kind.scVector Space.hbm Cert.KernelIdeal.S256x65536 EltTy.f32)
local notation "pV" => (Memref.whole Cert.KernelIdeal.main_v10_scv : Memref Cert.KernelIdeal.sig Kind.scVector Space.hbm Cert.KernelIdeal.S270336 EltTy.i32)
local notation "oV" => (Memref.whole Cert.KernelIdeal.main_v11_scv : Memref Cert.KernelIdeal.sig Kind.scVector Space.hbm Cert.KernelIdeal.S256x4096 EltTy.f32)
local notation "bV" => (Memref.whole Cert.KernelIdeal.cc0_scratch0 : Memref Cert.KernelIdeal.sig Kind.scVector Space.vmem Cert.KernelIdeal.S2x8192 EltTy.i32)
local notation "rV" => (Memref.whole Cert.KernelIdeal.cc0_scratch1 : Memref Cert.KernelIdeal.sig Kind.scVector Space.vmem Cert.KernelIdeal.S65536 EltTy.f32)
local notation "aV" => (Memref.whole Cert.KernelIdeal.cc0_scratch2 : Memref Cert.KernelIdeal.sig Kind.scVector Space.vmem Cert.KernelIdeal.S8208 EltTy.f32)
local notation "uV" => (Memref.whole Cert.KernelIdeal.cc0_scratch3 : Memref Cert.KernelIdeal.sig Kind.scVector Space.vmem Cert.KernelIdeal.S4096 EltTy.f32)

/-! ## The views' elements -/

/-- A coordinate of a unit-step rectangle's element in the shape: the offset plus the coordinate. -/
theorem unit_val {s : Shape} (off size : Fin s.rank → Nat) (inb) (x : (Rect.unit off size inb).shape.Idx) (a : Fin s.rank) :
    ((Rect.unit off size inb).emb x a : Nat) = off a + x a := by
  rw [Rect.emb_apply]; show off a + 1 * (x a : Nat) = _; omega

/-- The elements of half `a` of the chunk buffer. -/
def slotSet (a : ℕ) : Finset S2x8192.Idx := Finset.univ.filter fun j => (j 0).val = a

theorem mem_slot {a : ℕ} {j : S2x8192.Idx} : j ∈ slotSet a ↔ (j 0).val = a := by
  simp only [slotSet, Finset.mem_filter, Finset.mem_univ, true_and]

theorem ix_two (j : S2x8192.Idx) : j = ix2 (j 0) (j 1) := by
  funext a; match a with
  | 0 => rfl
  | 1 => rfl

theorem slot_inb {a : ℕ} (ha : a < 2) : ∀ x, (![a, 0] : Fin 2 → ℕ) x + S1x8192.size x ≤ S2x8192.size x := by
  intro x
  match x with
  | 0 => show a + 1 ≤ 2; omega
  | 1 => show 0 + 8192 ≤ 8192; omega

/-- Half `a` of the chunk buffer. -/
abbrev slotM {a : ℕ} (ha : a < 2) : Memref sig .scVector .vmem S8192 .i32 :=
  ((bV).slice (Rect.unit (s := S2x8192) ![a, 0] S1x8192.size (slot_inb ha)) (fun _ => rfl)).squeeze S8192 squeezes_S1x8192_S8192

theorem slot_emb {a : ℕ} (ha : a < 2) (x : S8192.Idx) : (slotM ha).view.emb x = (ix2 (⟨a, ha⟩ : Fin 2) (x 0) : S2x8192.Idx) := by
  show (Rect.unit (s := S2x8192) ![a, 0] S1x8192.size (slot_inb ha)).emb (Shape.reshapeEquiv _ x) = _
  rw [unslot]
  funext b; apply Fin.ext
  refine (unit_val (s := S2x8192) _ _ _ _ b).trans ?_
  match b with
  | 0 => rfl
  | 1 => exact Nat.zero_add _

theorem slot_set {a : ℕ} (ha : a < 2) : (slotM ha).view.set = slotSet a := by
  refine Finset.ext fun (j : S2x8192.Idx) => ⟨fun h => ?_, fun h => ?_⟩
  · obtain ⟨x, -, rfl⟩ := Finset.mem_map.mp h
    rw [slot_emb]; exact mem_slot.mpr rfl
  · have e : j = (slotM ha).view.emb (ix1 (j 1)) := by
      rw [slot_emb, ix_two j, show j 0 = (⟨a, ha⟩ : Fin 2) from Fin.ext (mem_slot.mp h)]; rfl
    rw [e]; exact View.emb_mem_set _ _

theorem chunk_read (n : ℕ) (h : n < 33) (p : S270336.Idx → BitVec 32) (x : S8192.Idx) :
    (chunkM pV n h).view.read (Elt F) p x = word p (8192 * n + (x 0).val) := by
  have hx : (x 0).val < 8192 := (x 0).isLt
  rw [View.read_apply, cast_eq]
  unfold word
  rw [dif_pos (show 8192 * n + (x 0).val < 270336 by omega)]
  show p ((Rect.unit (s := S270336) ![8192 * n] S8192.size (chunk_inb n h)).emb x) = _
  refine congrArg p ?_
  funext a; apply Fin.ext
  refine (unit_val (s := S270336) _ _ _ _ a).trans ?_
  match a with
  | 0 => rfl

variable [FloatOps F]

/-- What a chunk's transfer into a half leaves there. -/
theorem slot_write {a : ℕ} (ha : a < 2) (n : ℕ) (h : n < 33) (p : S270336.Idx → BitVec 32) (f : S2x8192.Idx → BitVec 32) :
    ∀ j ∈ slotSet a, (slotM ha).view.write (Elt F) f ((chunkM pV n h).view.read (Elt F) p) Finset.univ j = chunkBuf p n j := by
  intro j hj
  rw [← slot_set ha] at hj
  obtain ⟨x, -, rfl⟩ := Finset.mem_map.mp hj
  rw [View.write_emb_of_mem _ _ (Finset.mem_univ _), cast_eq, chunk_read, slot_emb]; rfl

/-! ## A tile's buffers -/

abbrev cV (L : grid0.Coords) : Fin τ.nSC := (L 0).castLE hcore0
abbrev jV (L : grid0.Coords) : Fin τ.nSub := (L 1).castLE hsub0

/-- The tile's vector subcore, and its four scratch buffers. -/
abbrev thr (d : Dev nD) (L : grid0.Coords) : Thread nD τ := V d (cV L) (jV L)
abbrev bL (d : Dev nD) (L : grid0.Coords) : Loc nD τ sig := (thr d L).loc cc0_scratch0
abbrev rL (d : Dev nD) (L : grid0.Coords) : Loc nD τ sig := (thr d L).loc cc0_scratch1
abbrev aL (d : Dev nD) (L : grid0.Coords) : Loc nD τ sig := (thr d L).loc cc0_scratch2
abbrev uL (d : Dev nD) (L : grid0.Coords) : Loc nD τ sig := (thr d L).loc cc0_scratch3

variable (d : Dev nD) (L : grid0.Coords)

/-! ## A group of sixteen words -/

/-- A group's text: sixteen words at `off` loaded from the chunk buffer, their columns and places checked, the row
    gathered at the columns and added at the places. -/
def groupProg (off : Fin 2 → ℕ) (inb : ∀ a, off a + S1x16.size a ≤ S2x8192.size a) :
    Prog (TpuEff nD τ sig (Elt F) Λ₀ (.scVector (cV L) (jV L))) Unit := do
  let w : Vec F S1x16 .i32 ← Prog.lift (.load bV (Rect.unit (s := S2x8192) off S1x16.size inb).toLoadRect (View.loadsAt_vmem h_S1x16))
  have col : IVec S16 32 := k0_pay3 w
  have hcol : k0_chk1 col := (← Prog.lift (TpuEff.assume (k0_chk1 col) (k0_chk1.dec col))).down
  have place : IVec S16 32 := k0_pay4 w
  have hplace : k0_chk2 place := (← Prog.lift (TpuEff.assume (k0_chk2 place) (k0_chk2.dec place))).down
  let g : Vec F S16 .f32 ← SparseCore.vectorLoadIdx rV ![col] (k0_idx1_inb col hcol) (View.loads_vmem h_S65536)
  SparseCore.vectorStoreIdx aV ![place] g (fun _ => 1#1) true (k0_idx2_inb place hplace) (View.stores_vmem_bits_univ h_S8208 rfl)
  pure ⟨⟩

/-- The words loaded are the group's lanes. -/
theorem load_lanes {a : ℕ} (n t : ℕ) {off : Fin 2 → ℕ} (hoff : off = ![a, 16 * t]) (inb : ∀ a, off a + S1x16.size a ≤ S2x8192.size a)
    (p : S270336.Idx → BitVec 32) :
    (bV).view.readAt (Elt F) (Rect.unit (s := S2x8192) off S1x16.size inb).toLoadRect (chunkBuf p n) = lanes (F := F) p (512 * n + t) := by
  subst hoff
  funext x
  rw [View.readAt_apply, View.read_apply, cast_eq]
  show word p (8192 * n + (16 * t + 1 * (x 1).val)) = word p (16 * (512 * n + t) + (x 1).val)
  congr 1; omega

theorem load_sub {a : ℕ} (t : ℕ) {off : Fin 2 → ℕ} (hoff : off = ![a, 16 * t]) (inb : ∀ a, off a + S1x16.size a ≤ S2x8192.size a) :
    (bV).view.setOn (Rect.unit (s := S2x8192) off S1x16.size inb).toLoadRect.set ⊆ slotSet a := by
  subst hoff
  intro j hj
  obtain ⟨x, hx, rfl⟩ := Finset.mem_map.mp hj
  obtain ⟨y, rfl⟩ := LoadRect.exists_idx_of_mem _ hx
  refine mem_slot.mpr ?_
  show a + 1 * (y 0).val = a
  have : (y 0).val < 1 := (y 0).isLt
  omega

/-- A group worked: from the sums after `512 n + t` groups to the next. -/
theorem group {a : ℕ} (n t : ℕ) {off : Fin 2 → ℕ} (hoff : off = ![a, 16 * t]) (inb : ∀ a, off a + S1x16.size a ≤ S2x8192.size a)
    {p : S270336.Idx → BitVec 32} (hp : WordsOK p) (x : S65536.Idx → F .f32) :
    (iprop((bL d L ↦[slotSet a]{fullShare} (chunkBuf p n : Buf (Elt F) (bL d L))) ∗ (rL d L ↦{fullShare} (x : Buf (Elt F) (rL d L)))
        ∗ (aL d L ↦{fullShare} (acc hp x (512 * n + t) : Buf (Elt F) (aL d L)))) : sProp 𝕄)
      ⊢ wp frame (wpE (defs₀ (F := F)) 𝒱₀ (thr d L) none) Set.univ (groupProg (F := F) L off inb)
          fun _ => iprop((bL d L ↦[slotSet a]{fullShare} (chunkBuf p n : Buf (Elt F) (bL d L))) ∗ (rL d L ↦{fullShare} (x : Buf (Elt F) (rL d L)))
            ∗ (aL d L ↦{fullShare} (acc hp x (512 * n + t + 1) : Buf (Elt F) (aL d L)))) := by
  have hl := load_lanes (F := F) n t hoff inb p
  unfold groupProg
  simp only [Prog.lift, Prog.bind_op, Prog.bind_ret, Prog.pure_eq_ret]
  iintro ⟨Hb, Hr, Ha⟩
  iapply (wp_load 𝒱₀ (thr d L) none Set.univ (m := bV) (S := slotSet a) (load_sub t hoff inb)) $$ Hb; iintro Hb
  rw [wp_assume_of _ _ _ _ (chk1_of (F := F) _)]
  rw [wp_assume_of _ _ _ _ (by rw [hl]; exact chk2_of (F := F) hp _)]
  iapply (SparseCore.wp_vectorLoadIdx 𝒱₀ (thr d L) none Set.univ (base := rV) (S := Finset.univ) (q := fullShare) (Finset.subset_univ _)) $$ Hr; iintro Hr
  ihave Ha' := (Entails.of_eq (congrArg (fun s => (aL d L ↦[s]{fullShare} (acc hp x (512 * n + t) : Buf (Elt F) (aL d L)) : sProp 𝕄)) (Memref.set_access_whole (cc0_scratch2 : Ref sig .scVector)).symm)) $$ Ha
  iapply (SparseCore.wp_vectorStoreIdx 𝒱₀ (thr d L) none Set.univ (base := aV)) $$ Ha'; iintro Ha
  rw [Memref.set_access_whole]
  rw [wp_ret]
  imodintro
  isplitl [Hb]; · iexact Hb
  isplitl [Hr]; · iexact Hr
  have e : ∀ w, w = lanes (F := F) p (512 * n + t) → ∀ h₁ h₂,
      ((aV).access (Rect.whole S8208)).write (Elt F) (acc hp x (512 * n + t))
        (storeIdx (((aV).access (Rect.whole S8208)).read (Elt F) (acc hp x (512 * n + t))) ![k0_pay4 w]
          (loadIdx (F := F) (s := S65536) (e := .f32) (((rV).access (Rect.whole S65536)).read (Elt F) x) ![k0_pay3 w] h₁) (fun _ => 1#1) true h₂) Finset.univ
        = acc hp x (512 * n + t + 1) := by
    intro w hw h₁ h₂
    subst hw
    refine (Memref.write_access_whole_univ (Elt F) (cc0_scratch2 : Ref sig .scVector) _ _).trans ?_
    rw [acc]
    congr 1
    · exact Memref.read_access_whole (Elt F) (cc0_scratch2 : Ref sig .scVector) _
    · exact congrArg (fun y => loadIdx (F := F) (s := S65536) (e := .f32) y _ h₁) (Memref.read_access_whole (Elt F) (cc0_scratch1 : Ref sig .scVector) x)
  iapply (Entails.of_eq (congrArg (fun f : Buf (Elt F) (aL d L) => (aL d L ↦{fullShare} f : sProp 𝕄)) (e _ hl _ _))) $$ Ha

/-! ## A chunk's transfer -/

/-- What the tile owes, its waits those it had or on its own semaphores. -/
def Owing (O : CellTallies nD τ sig (HIx 1)) (W : Waits sig (HIx 1)) : sProp 𝕄 :=
  iprop(∃ W', ⌜∀ w ∈ W', w ∈ W ∨ w.2 = none⌝ ∗ owes (thr d L) O W')

/-- One more wait on a semaphore of the tile's own. -/
theorem owing_insert {O : CellTallies nD τ sig (HIx 1)} {W W' : Waits sig (HIx 1)} (hW : ∀ w ∈ W', w ∈ W ∨ w.2 = none) {sm : SemLoc sig} :
    (owes (thr d L) O (insert (sm, none) W') : sProp 𝕄) ⊢ Owing d L O W := by
  unfold Owing
  iintro H
  iexists (insert (sm, none) W')
  isplitr
  · ipureintro
    intro w hw
    rcases Finset.mem_insert.mp hw with rfl | hw
    · exact .inr rfl
    · exact hW w hw
  iexact H

theorem owing_elim {O : CellTallies nD τ sig (HIx 1)} {W : Waits sig (HIx 1)} :
    (Owing d L O W : sProp 𝕄) ⊢ iprop(∃ W', ⌜∀ w ∈ W', w ∈ W ∨ w.2 = none⌝ ∗ owes (thr d L) O W') := .rfl

/-- The packed words, as the tile names them. -/
abbrev pL (d : Dev nD) (L : grid0.Coords) : Loc nD τ sig := (thr d L).loc main_v10_scv

/-- Chunk `n`'s transfer into half `a` under way on semaphore `sm`: at the wait the half holds the chunk, and the share
    `q` of the packed words is whole again. -/
def Fly (sm : DmaSems sig S_) (a n : ℕ) (h : n < 33) (q : PosShare TreeShare) (p : S270336.Idx → BitVec 32) : sProp 𝕄 :=
  iprop(Transfers.Flight (countersEmb (U := UU)) (thr d L) (.dma sm.sem) (none : HIx 1) (slotM0 bV).view.dmaCredit
      iprop((bL d L ↦[slotSet a]{fullShare} (chunkBuf p n : Buf (Elt F) (bL d L)))
        ∗ (pL d L ↦[(chunkM pV n h).view.set]{q} (p : Buf (Elt F) (pL d L))))
    ∗ (pL d L ↦[Finset.univ \ (chunkM pV n h).view.set]{q} (p : Buf (Elt F) (pL d L))))

/-- A chunk's transfer started. -/
theorem wp_issue {a : ℕ} (ha : a < 2) (n : ℕ) (h : n < 33) (sm : DmaSems sig S_) (q : PosShare TreeShare) (p : S270336.Idx → BitVec 32)
    (f : Buf (Elt F) (bL d L)) {h₁ : (chunkM pV n h).view.WordExact} {h₂ : (slotM ha).view.WordExact}
    {h₃} {α : Type}
    {k : PUnit → Prog (TpuEff nD τ sig (Elt F) Λ₀ (.scVector (cV L) (jV L))) α} {Q : α → sProp 𝕄} :
    (iprop((bL d L ↦[slotSet a]{fullShare} f) ∗ (pL d L ↦{q} (p : Buf (Elt F) (pL d L))) ∗ semVal (thr d L, .dma sm.sem) 0) : sProp 𝕄)
      ⊢ iprop((Fly d L sm a n h q p -∗ wp frame (wpE (defs₀ (F := F)) 𝒱₀ (thr d L) none) Set.univ (k ⟨⟩) Q)
        -∗ wp frame (wpE (defs₀ (F := F)) 𝒱₀ (thr d L) none) Set.univ
            (.op (.enqueueDma (chunkM pV n h) (.here (slotM ha)) (.dma sm.sem) h₁ h₂ h₃) k) Q) := by
  iintro ⟨Hb, Hp, Hs⟩ Hk
  ihave Hp' := (pointsTo_split_subset (Finset.subset_univ (chunkM pV n h).view.set)).1 $$ Hp
  icases Hp' with ⟨Hp1, Hp2⟩
  iapply (Transfers.wp_dmaLocal (countersEmb (U := UU)) 𝒱₀ (thr d L) none (none : HIx 1) (slotM0 bV).view.dmaCredit rfl
    (View.amount_pos (slotM0 bV).view (.dma sm.sem) (by decide)) (Sd := slotSet a) (slot_set ha).subset) $$ [Hb Hp1 Hs]
  · isplitl [Hp1]; · iexact Hp1
    isplitl [Hb]; · iexact Hb
    iexact Hs
  iintro HF
  iapply Hk
  unfold Fly
  isplitl [HF]
  · iapply (Transfers.Flight_mono (countersEmb (U := UU)) (thr d L) ?_) $$ HF
    iintro ⟨H1, H2⟩
    isplitl [H1]
    · iapply (Entails.of_eq (pointsTo_congr (slot_write (F := F) ha n h p f))) $$ H1
    · iexact H2
  · iexact Hp2

/-- A chunk's transfer waited for. -/
theorem wp_await {a : ℕ} (ha : a < 2) (n : ℕ) (h : n < 33) (sm : DmaSems sig S_) (q : PosShare TreeShare) (p : S270336.Idx → BitVec 32)
    {O : CellTallies nD τ sig (HIx 1)} {W : Waits sig (HIx 1)} (hO : ∀ g, O g none = 0)
    {h₁ : (chunkM pV n h).view.WordExact} {h₂ : (slotM ha).view.WordExact} {α : Type}
    {k : PUnit → Prog (TpuEff nD τ sig (Elt F) Λ₀ (.scVector (cV L) (jV L))) α} {Q : α → sProp 𝕄} :
    (iprop(levAts (K (F := F)).L (K (F := F)).lev ∗ Fly d L sm a n h q p ∗ Owing d L O W) : sProp 𝕄)
      ⊢ iprop((iprop((bL d L ↦[slotSet a]{fullShare} (chunkBuf p n : Buf (Elt F) (bL d L))) ∗ (pL d L ↦{q} (p : Buf (Elt F) (pL d L)))
            ∗ semVal (thr d L, .dma sm.sem) 0 ∗ Owing d L O W)
          -∗ wp frame (wpE (defs₀ (F := F)) 𝒱₀ (thr d L) none) Set.univ (k ⟨⟩) Q)
        -∗ wp frame (wpE (defs₀ (F := F)) 𝒱₀ (thr d L) none) Set.univ
            (.op (.waitDma2 sm.sem (chunkM pV n h) (slotM ha) h₁ h₂) k) Q) := by
  unfold Fly
  iintro ⟨#Hlv, ⟨HF, Hp2⟩, HO⟩ Hk
  ihave HO := (owing_elim d L) $$ HO
  icases HO with ⟨%W', %hW, HO⟩
  iapply (Transfers.wp_waitLocalO (countersEmb (U := UU)) 𝒱₀ (thr d L) none (none : HIx 1) rfl) $$ [HF HO]
  · isplitl [HF]; · iexact HF
    isplitl [HO]; · iexact HO
    iapply ((K (F := F)).mayWait_none (SemLoc.dma sm.sem) hO); iexact Hlv
  iintro ⟨⟨Hb, Hp1⟩, Hs, HO⟩
  iapply Hk
  isplitl [Hb]; · iexact Hb
  isplitl [Hp1 Hp2]
  · iapply (pointsTo_split_subset (Finset.subset_univ (chunkM pV n h).view.set)).2
    isplitl [Hp1]; · iexact Hp1
    iexact Hp2
  isplitl [Hs]; · iexact Hs
  iapply (owing_insert d L hW) $$ HO

/-- What the work on half `a` of the chunk buffer holds, after `t` groups of chunk `n`. -/
def Work (a n : ℕ) {p : S270336.Idx → BitVec 32} (hp : WordsOK p) (x : S65536.Idx → F .f32) (t : ℕ) : sProp 𝕄 :=
  iprop((bL d L ↦[slotSet a]{fullShare} (chunkBuf p n : Buf (Elt F) (bL d L))) ∗ (rL d L ↦{fullShare} (x : Buf (Elt F) (rL d L)))
    ∗ (aL d L ↦{fullShare} (acc hp x t : Buf (Elt F) (aL d L))))

section
variable (s9 s10 q0 q1 : DmaSems sig S_)

/-- The row body's pieces over the tile's own memrefs. -/
abbrev tWork0 : Prog (TpuEff nD τ sig (Elt F) Λ₀ (.scVector (cV L) (jV L))) Unit := work0 L xV (Memref.isWhole_whole _) pV (Memref.isWhole_whole _) oV (Memref.isWhole_whole _) bV (Memref.isWhole_whole _) rV (Memref.isWhole_whole _) aV (Memref.isWhole_whole _) uV (Memref.isWhole_whole _) s9 s10 q0 q1
abbrev tWork1 : Prog (TpuEff nD τ sig (Elt F) Λ₀ (.scVector (cV L) (jV L))) Unit := work1 L xV (Memref.isWhole_whole _) pV (Memref.isWhole_whole _) oV (Memref.isWhole_whole _) bV (Memref.isWhole_whole _) rV (Memref.isWhole_whole _) aV (Memref.isWhole_whole _) uV (Memref.isWhole_whole _) s9 s10 q0 q1

/-- A chunk in the first half worked through. -/
theorem wp_work0 (n : ℕ) {p : S270336.Idx → BitVec 32} (hp : WordsOK p) (x : S65536.Idx → F .f32) :
    (Work d L 0 n hp x (512 * n) : sProp 𝕄)
      ⊢ wp frame (wpE (defs₀ (F := F)) 𝒱₀ (thr d L) none) Set.univ (tWork0 (F := F) L s9 s10 q0 q1) fun _ => Work d L 0 n hp x (512 * (n + 1)) := by
  refine BIBase.Entails.trans ?_ (Scf.wp_for _ _ _ _ _ _ k0_t3_ok () _ (fun t _ => (Work d L 0 n hp x (512 * n + t) : sProp 𝕄)) ?_)
  · iintro H
    isplitl [H]; · iexact H
    iintro %u H
    rw [show Scf.trips k0_t3_loop.lb k0_t3_loop.ub k0_t3_loop.st = 512 by decide]
    iexact H
  · intro k u
    exact group d L n k.val (k0_off3_eq k) (k0_off3_inb k) hp x

/-- A chunk in the second half worked through. -/
theorem wp_work1 (n : ℕ) {p : S270336.Idx → BitVec 32} (hp : WordsOK p) (x : S65536.Idx → F .f32) :
    (Work d L 1 n hp x (512 * n) : sProp 𝕄)
      ⊢ wp frame (wpE (defs₀ (F := F)) 𝒱₀ (thr d L) none) Set.univ (tWork1 (F := F) L s9 s10 q0 q1) fun _ => Work d L 1 n hp x (512 * (n + 1)) := by
  refine BIBase.Entails.trans ?_ (Scf.wp_for _ _ _ _ _ _ k0_t4_ok () _ (fun t _ => (Work d L 1 n hp x (512 * n + t) : sProp 𝕄)) ?_)
  · iintro H
    isplitl [H]; · iexact H
    iintro %u H
    rw [show Scf.trips k0_t4_loop.lb k0_t4_loop.ub k0_t4_loop.st = 512 by decide]
    iexact H
  · intro k u
    exact group d L n k.val (k0_off4_eq k) (k0_off4_inb k) hp x

end

end Cert.Proof.Tile

end
-- ==== Proof.Row.lean ====
/-
  A tile's row: two chunks' work at any chunk number, the last three chunks and the combination of the sums, the row's
  load and the sums cleared, and the row written out.
-/
module

public import proofs.«01_k».proof.Proof.Tile

@[expose] public section

noncomputable section

namespace Cert.Proof.Row

open Cert.KernelIdeal Cert.KernelIdeal.Gen Cert.Proof.Parts Cert.Proof.Vals Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S256x65536 EltTy.f32)
local notation "pV" => (Memref.whole Cert.KernelIdeal.main_v10_scv : Memref Cert.KernelIdeal.sig Kind.scVector Space.hbm Cert.KernelIdeal.S270336 EltTy.i32)
local notation "oV" => (Memref.whole Cert.KernelIdeal.main_v11_scv : Memref Cert.KernelIdeal.sig Kind.scVector Space.hbm Cert.KernelIdeal.S256x4096 EltTy.f32)
local notation "bV" => (Memref.whole Cert.KernelIdeal.cc0_scratch0 : Memref Cert.KernelIdeal.sig Kind.scVector Space.vmem Cert.KernelIdeal.S2x8192 EltTy.i32)
local notation "rV" => (Memref.whole Cert.KernelIdeal.cc0_scratch1 : Memref Cert.KernelIdeal.sig Kind.scVector Space.vmem Cert.KernelIdeal.S65536 EltTy.f32)
local notation "aV" => (Memref.whole Cert.KernelIdeal.cc0_scratch2 : Memref Cert.KernelIdeal.sig Kind.scVector Space.vmem Cert.KernelIdeal.S8208 EltTy.f32)
local notation "uV" => (Memref.whole Cert.KernelIdeal.cc0_scratch3 : Memref Cert.KernelIdeal.sig Kind.scVector Space.vmem Cert.KernelIdeal.S4096 EltTy.f32)

variable [FloatOps F] (d : Dev nD) (L : grid0.Coords) (s9 s10 q0 q1 : DmaSems sig S_)

/-! ## Programs one after the other -/

/-- A program first, the rest from what it leaves. -/
theorem wp_first {α β : Type} {e : Prog (TpuEff nD τ sig (Elt F) Λ₀ (.scVector (cV L) (jV L))) α}
    {k : α → Prog (TpuEff nD τ sig (Elt F) Λ₀ (.scVector (cV L) (jV L))) β} {P : sProp 𝕄} {R : α → sProp 𝕄} {Q : β → sProp 𝕄}
    (h : P ⊢ wp frame (wpE (defs₀ (F := F)) 𝒱₀ (thr d L) none) Set.univ e R) :
    P ⊢ iprop((∀ a, R a -∗ wp frame (wpE (defs₀ (F := F)) 𝒱₀ (thr d L) none) Set.univ (k a) Q)
      -∗ wp frame (wpE (defs₀ (F := F)) 𝒱₀ (thr d L) none) Set.univ (e >>= k) Q) := by
  rw [wp_bind]
  exact h.trans (wp_wand _ _ _)

/-! ## Two chunks -/

abbrev tPair (n : ℕ) (h : 2 * n + 3 < 33) : Prog (TpuEff nD τ sig (Elt F) Λ₀ (.scVector (cV L) (jV L))) PUnit := pair L xV (Memref.isWhole_whole _) pV (Memref.isWhole_whole _) oV (Memref.isWhole_whole _) bV (Memref.isWhole_whole _) rV (Memref.isWhole_whole _) aV (Memref.isWhole_whole _) uV (Memref.isWhole_whole _) s9 s10 q0 q1 n h
abbrev tLast : Prog (TpuEff nD τ sig (Elt F) Λ₀ (.scVector (cV L) (jV L))) PUnit := last L xV (Memref.isWhole_whole _) pV (Memref.isWhole_whole _) oV (Memref.isWhole_whole _) bV (Memref.isWhole_whole _) rV (Memref.isWhole_whole _) aV (Memref.isWhole_whole _) uV (Memref.isWhole_whole _) s9 s10 q0 q1

/-- What the tile holds before chunk `2 n` is worked: that chunk in the first half, the next one under way to the
    second, the row, and the sums of the chunks before. -/
def Mid (n : ℕ) (h : 2 * n + 1 < 33) (qa qb : PosShare TreeShare) {p : S270336.Idx → BitVec 32} (hp : WordsOK p) (x : S65536.Idx → F .f32)
    (O : CellTallies nD τ sig (HIx 1)) (W : Waits sig (HIx 1)) : sProp 𝕄 :=
  iprop(levAts (K (F := F)).L (K (F := F)).lev ∗ Work d L 0 (2 * n) hp x (512 * (2 * n)) ∗ Fly d L s10 1 (2 * n + 1) h qb p ∗ (pL d L ↦{qa} (p : Buf (Elt F) (pL d L)))
    ∗ semVal (thr d L, .dma s9.sem) 0 ∗ Owing d L O W)

/-- Two chunks worked through. -/
theorem wp_pair (n : ℕ) (h : 2 * n + 3 < 33) (qa qb : PosShare TreeShare) {p : S270336.Idx → BitVec 32} (hp : WordsOK p) (x : S65536.Idx → F .f32)
    {O : CellTallies nD τ sig (HIx 1)} {W : Waits sig (HIx 1)} (hO : ∀ g, O g none = 0) :
    (Mid d L s9 s10 n (by omega) qa qb hp x O W : sProp 𝕄)
      ⊢ wp frame (wpE (defs₀ (F := F)) 𝒱₀ (thr d L) none) Set.univ (tPair (F := F) L s9 s10 q0 q1 n h) fun _ => Mid d L s9 s10 (n + 1) (by omega) qa qb hp x O W := by
  unfold tPair pair Mid
  simp only [Prog.lift, Prog.bind_op, Prog.bind_ret, Prog.pure_eq_ret]
  iintro ⟨#Hlv, Hw, HF, Hp, Hs9, HO⟩
  iapply (wp_first d L (wp_work0 d L s9 s10 q0 q1 (2 * n) hp x)) $$ Hw
  iintro %_ Hw
  unfold Work
  icases Hw with ⟨Hb, Hr, Ha⟩
  iapply (wp_issue d L (a := 0) (by decide) (2 * n + 2) _ s9 qa p _) $$ [Hb Hp Hs9]
  · isplitl [Hb]; · iexact Hb
    isplitl [Hp]; · iexact Hp
    iexact Hs9
  iintro HF9
  iapply (wp_await d L (a := 1) (by decide) (2 * n + 1) _ s10 qb p hO) $$ [HF HO]
  · isplitr; · iexact Hlv
    isplitl [HF]; · iexact HF
    iexact HO
  iintro ⟨Hb, Hp, Hs10, HO⟩
  iapply (wp_first d L (wp_work1 d L s9 s10 q0 q1 (2 * n + 1) hp x)) $$ [Hb Hr Ha]
  · unfold Work
    isplitl [Hb]; · iexact Hb
    isplitl [Hr]; · iexact Hr
    iexact Ha
  iintro %_ Hw
  unfold Work
  icases Hw with ⟨Hb, Hr, Ha⟩
  iapply (wp_issue d L (a := 1) (by decide) (2 * n + 3) _ s10 qb p _) $$ [Hb Hp Hs10]
  · isplitl [Hb]; · iexact Hb
    isplitl [Hp]; · iexact Hp
    iexact Hs10
  iintro HF
  iapply (wp_await d L (a := 0) (by decide) (2 * n + 2) _ s9 qa p hO) $$ [HF9 HO]
  · isplitr; · iexact Hlv
    isplitl [HF9]; · iexact HF9
    iexact HO
  iintro ⟨Hb, Hp, Hs9, HO⟩
  rw [wp_ret]
  imodintro
  isplitr; · iexact Hlv
  isplitl [Hb Hr Ha]
  · isplitl [Hb]; · iexact Hb
    isplitl [Hr]; · iexact Hr
    iexact Ha
  isplitl [HF]; · iexact HF
  isplitl [Hp]; · iexact Hp
  isplitl [Hs9]; · iexact Hs9
  iexact HO

/-! ## The sums cleared, and combined -/

/-- Sixteen elements at `16 t` written to the sums: they are there, the rest as before. -/
theorem sums_write (t : ℕ) {off : Fin 1 → ℕ} (hoff : off = ![16 * t]) (inb : ∀ a, off a + S16.size a ≤ S8208.size a)
    (f g : S8208.Idx → F .f32) (v : S16.Idx → F .f32) (hf : ∀ j : S8208.Idx, (j 0).val < 16 * t → f j = g j)
    (hv : ∀ j : S8208.Idx, ∀ x : S16.Idx, (j 0).val = 16 * t + (x 0).val → v x = g j) :
    ∀ j : S8208.Idx, (j 0).val < 16 * (t + 1) → ((aV).access (Rect.unit (s := S8208) off S16.size inb)).write (Elt F) f v Finset.univ j = g j := by
  subst hoff
  intro j hj
  by_cases hm : j ∈ ((aV).access (Rect.unit (s := S8208) ![16 * t] S16.size inb)).set
  · obtain ⟨x, -, rfl⟩ := Finset.mem_map.mp hm
    rw [View.write_emb_of_mem _ _ (Finset.mem_univ _), cast_eq]
    exact hv _ x (unit_val (s := S8208) _ _ inb x 0)
  · rw [View.write_of_not_mem _ _ _ hm]
    refine hf j ?_
    by_contra hc
    refine hm (Finset.mem_map.mpr ⟨(ix1 ⟨(j 0).val - 16 * t, by omega⟩ : S16.Idx), Finset.mem_univ _, ?_⟩)
    funext a; apply Fin.ext
    refine (unit_val (s := S8208) _ _ inb _ a).trans ?_
    match a with
    | 0 => show 16 * t + ((j 0).val - 16 * t) = (j 0).val; omega
/-- The same of the result row. -/
theorem out_write (t : ℕ) {off : Fin 1 → ℕ} (hoff : off = ![16 * t]) (inb : ∀ a, off a + S16.size a ≤ S4096.size a)
    (f g : S4096.Idx → F .f32) (v : S16.Idx → F .f32) (hf : ∀ j : S4096.Idx, (j 0).val < 16 * t → f j = g j)
    (hv : ∀ j : S4096.Idx, ∀ x : S16.Idx, (j 0).val = 16 * t + (x 0).val → v x = g j) :
    ∀ j : S4096.Idx, (j 0).val < 16 * (t + 1) → ((uV).access (Rect.unit (s := S4096) off S16.size inb)).write (Elt F) f v Finset.univ j = g j := by
  subst hoff
  intro j hj
  by_cases hm : j ∈ ((uV).access (Rect.unit (s := S4096) ![16 * t] S16.size inb)).set
  · obtain ⟨x, -, rfl⟩ := Finset.mem_map.mp hm
    rw [View.write_emb_of_mem _ _ (Finset.mem_univ _), cast_eq]
    exact hv _ x (unit_val (s := S4096) _ _ inb x 0)
  · rw [View.write_of_not_mem _ _ _ hm]
    refine hf j ?_
    by_contra hc
    refine hm (Finset.mem_map.mpr ⟨(ix1 ⟨(j 0).val - 16 * t, by omega⟩ : S16.Idx), Finset.mem_univ _, ?_⟩)
    funext a; apply Fin.ext
    refine (unit_val (s := S4096) _ _ inb _ a).trans ?_
    match a with
    | 0 => show 16 * t + ((j 0).val - 16 * t) = (j 0).val; omega

/-- Sixteen sums loaded at an offset. -/
theorem sums_load (o : ℕ) {off : Fin 1 → ℕ} (hoff : off = ![o]) (inb : ∀ a, off a + S16.size a ≤ S8208.size a) (f : S8208.Idx → F .f32) (x : S16.Idx)
    (j : S8208.Idx) (hj : (j 0).val = o + (x 0).val) :
    (aV).view.readAt (Elt F) (Rect.unit (s := S8208) off S16.size inb).toLoadRect f x = f j := by
  subst hoff
  rw [View.readAt_apply, View.read_apply, cast_eq]
  refine congrArg f ?_
  funext a; apply Fin.ext
  match a with
  | 0 => show o + 1 * (x 0).val = (j 0).val; omega

/-- The sums cleared. -/
theorem wp_zero (v1 c0 c1 : BitVec 32) (t1 : Fin k0_t1_loop.trips) {p : S270336.Idx → BitVec 32} (hp : WordsOK p) (x : S65536.Idx → F .f32) (f : Buf (Elt F) (aL d L)) :
    (aL d L ↦{fullShare} f : sProp 𝕄)
      ⊢ wp frame (wpE (defs₀ (F := F)) 𝒱₀ (thr d L) none) Set.univ
          (Scf.Loop.for k0_t2_loop k0_t2_ok ⟨⟩ (k0_t2_body (F := F) L xV (Memref.isWhole_whole _) pV (Memref.isWhole_whole _) oV (Memref.isWhole_whole _) bV (Memref.isWhole_whole _) rV (Memref.isWhole_whole _) aV (Memref.isWhole_whole _) uV (Memref.isWhole_whole _) s9 s10 q0 q1 v1 c0 c1 t1))
          fun _ => iprop(aL d L ↦{fullShare} (acc hp x 0 : Buf (Elt F) (aL d L))) := by
  refine BIBase.Entails.trans ?_ (Scf.wp_for _ _ _ _ _ _ k0_t2_ok () _
    (fun t _ => (iprop(∃ f' : S8208.Idx → F .f32, ⌜∀ j : S8208.Idx, (j 0).val < 16 * t → f' j = acc hp x 0 j⌝ ∗ aL d L ↦{fullShare} (f' : Buf (Elt F) (aL d L))) : sProp 𝕄)) ?_)
  · iintro H
    isplitl [H]
    · iexists f
      isplitr
      · ipureintro; intro j hj; omega
      iexact H
    iintro %u ⟨%f', %hf', H⟩
    rw [show Scf.trips k0_t2_loop.lb k0_t2_loop.ub k0_t2_loop.st = 513 by decide] at hf'
    have e : f' = acc hp x 0 := funext fun j => hf' j (by have := (j 0).isLt; change _ < 8208 at this; omega)
    subst e
    iexact H
  · intro t u
    iintro ⟨%f', %hf', H⟩
    unfold k0_t2_body
    simp only [Prog.lift, Prog.bind_op, Prog.bind_ret, Prog.pure_eq_ret]
    iapply (wp_load 𝒱₀ (thr d L) none Set.univ (m := aV) (S := Finset.univ) (Finset.subset_univ _)) $$ H; iintro H
    iapply (wp_store 𝒱₀ (thr d L) none Set.univ (m := aV) (r := Rect.unit (s := S8208) (k0_off2 t) S16.size (k0_off2_inb t)) (S := Finset.univ) (Finset.subset_univ _)) $$ H; iintro H
    rw [wp_ret]
    imodintro
    iexists _
    isplitr
    rotate_left
    · iexact H
    ipureintro
    exact sums_write t.val (k0_off2_eq t) (k0_off2_inb t) f' (acc hp x 0) _ hf' (fun j y _ => rfl)

/-- The sums combined into the result row. -/
theorem wp_comb (s : S8208.Idx → F .f32) (f : Buf (Elt F) (uL d L)) :
    (iprop((aL d L ↦{fullShare} (s : Buf (Elt F) (aL d L))) ∗ uL d L ↦{fullShare} f) : sProp 𝕄)
      ⊢ wp frame (wpE (defs₀ (F := F)) 𝒱₀ (thr d L) none) Set.univ
          (Scf.Loop.for k0_t36_loop k0_t36_ok ⟨⟩ (k0_t36_body (F := F) L xV (Memref.isWhole_whole _) pV (Memref.isWhole_whole _) oV (Memref.isWhole_whole _) bV (Memref.isWhole_whole _) rV (Memref.isWhole_whole _) aV (Memref.isWhole_whole _) uV (Memref.isWhole_whole _) s9 s10 q0 q1))
          fun _ => iprop((aL d L ↦{fullShare} (s : Buf (Elt F) (aL d L))) ∗ uL d L ↦{fullShare} (outRow s : Buf (Elt F) (uL d L))) := by
  refine BIBase.Entails.trans ?_ (Scf.wp_for _ _ _ _ _ _ k0_t36_ok () _
    (fun t _ => (iprop((aL d L ↦{fullShare} (s : Buf (Elt F) (aL d L))) ∗ ∃ f' : S4096.Idx → F .f32, ⌜∀ j : S4096.Idx, (j 0).val < 16 * t → f' j = outRow s j⌝
      ∗ uL d L ↦{fullShare} (f' : Buf (Elt F) (uL d L))) : sProp 𝕄)) ?_)
  · iintro ⟨Ha, H⟩
    isplitl [Ha H]
    · isplitl [Ha]; · iexact Ha
      iexists f
      isplitr
      · ipureintro; intro j hj; omega
      iexact H
    iintro %u ⟨Ha, %f', %hf', H⟩
    rw [show Scf.trips k0_t36_loop.lb k0_t36_loop.ub k0_t36_loop.st = 256 by decide] at hf'
    have e : f' = outRow s := funext fun j => hf' j (by have := (j 0).isLt; change _ < 4096 at this; omega)
    subst e
    isplitl [Ha]; · iexact Ha
    iexact H
  · intro t u
    iintro ⟨Ha, %f', %hf', H⟩
    unfold k0_t36_body
    simp only [Prog.lift, Prog.bind_op, Prog.bind_ret, Prog.pure_eq_ret]
    iapply (wp_load 𝒱₀ (thr d L) none Set.univ (m := aV) (S := Finset.univ) (Finset.subset_univ _)) $$ Ha; iintro Ha
    iapply (wp_load 𝒱₀ (thr d L) none Set.univ (m := aV) (S := Finset.univ) (Finset.subset_univ _)) $$ Ha; iintro Ha
    iapply (wp_load 𝒱₀ (thr d L) none Set.univ (m := uV) (S := Finset.univ) (Finset.subset_univ _)) $$ H; iintro H
    iapply (wp_store 𝒱₀ (thr d L) none Set.univ (m := uV) (r := Rect.unit (s := S4096) (k0_off38 t) S16.size (k0_off38_inb t)) (S := Finset.univ) (Finset.subset_univ _)) $$ H; iintro H
    rw [wp_ret]
    imodintro
    isplitl [Ha]; · iexact Ha
    iexists _
    isplitr
    rotate_left
    · iexact H
    ipureintro
    refine out_write t.val (k0_off38_eq t) (k0_off38_inb t) f' (outRow s) _ hf' (fun j y hy => ?_)
    rw [pay101_apply]
    unfold outRow
    rw [sums_load _ (k0_off36_eq t) (k0_off36_inb t) s y (ix1 ⟨(j 0).val, by have := (j 0).isLt; change _ < 4096 at this; omega⟩) hy,
      sums_load _ (k0_off37_eq t) (k0_off37_inb t) s y (ix1 ⟨4096 + (j 0).val, by have := (j 0).isLt; change _ < 4096 at this; omega⟩)
        (by show 4096 + (j 0).val = 16 * t.val + 4096 + (y 0).val; omega)]

/-! ## The last three chunks -/

/-- The last three chunks worked through, and the sums combined. -/
theorem wp_last (qa qb : PosShare TreeShare) {p : S270336.Idx → BitVec 32} (hp : WordsOK p) (x : S65536.Idx → F .f32)
    {O : CellTallies nD τ sig (HIx 1)} {W : Waits sig (HIx 1)} (hO : ∀ g, O g none = 0) (f : Buf (Elt F) (uL d L)) :
    (iprop(Mid d L s9 s10 15 (by omega) qa qb hp x O W ∗ uL d L ↦{fullShare} f) : sProp 𝕄)
      ⊢ wp frame (wpE (defs₀ (F := F)) 𝒱₀ (thr d L) none) Set.univ (tLast (F := F) L s9 s10 q0 q1) fun _ =>
          iprop((bL d L ↦[slotSet 0]{fullShare} (chunkBuf p 32 : Buf (Elt F) (bL d L))) ∗ (bL d L ↦[slotSet 1]{fullShare} (chunkBuf p 31 : Buf (Elt F) (bL d L)))
            ∗ (rL d L ↦{fullShare} (x : Buf (Elt F) (rL d L))) ∗ (aL d L ↦{fullShare} (acc hp x 16896 : Buf (Elt F) (aL d L)))
            ∗ (uL d L ↦{fullShare} (outRow (acc hp x 16896) : Buf (Elt F) (uL d L)))
            ∗ (pL d L ↦{qa} (p : Buf (Elt F) (pL d L))) ∗ (pL d L ↦{qb} (p : Buf (Elt F) (pL d L)))
            ∗ semVal (thr d L, .dma s9.sem) 0 ∗ semVal (thr d L, .dma s10.sem) 0 ∗ Owing d L O W) := by
  unfold tLast last Mid
  simp only [Prog.lift, Prog.bind_op, Prog.bind_ret, Prog.pure_eq_ret]
  iintro ⟨⟨#Hlv, Hw, HF, Hp, Hs9, HO⟩, Hu⟩
  iapply (wp_first d L (wp_work0 d L s9 s10 q0 q1 (2 * 15) hp x)) $$ Hw
  iintro %_ Hw
  unfold Work
  icases Hw with ⟨Hb, Hr, Ha⟩
  iapply (wp_issue d L (a := 0) (by decide) 32 _ s9 qa p _) $$ [Hb Hp Hs9]
  · isplitl [Hb]; · iexact Hb
    isplitl [Hp]; · iexact Hp
    iexact Hs9
  iintro HF9
  iapply (wp_await d L (a := 1) (by decide) 31 _ s10 qb p hO) $$ [HF HO]
  · isplitr; · iexact Hlv
    isplitl [HF]; · iexact HF
    iexact HO
  iintro ⟨Hb1, Hp1, Hs10, HO⟩
  iapply (wp_first d L (wp_work1 d L s9 s10 q0 q1 31 hp x)) $$ [Hb1 Hr Ha]
  · unfold Work
    isplitl [Hb1]; · iexact Hb1
    isplitl [Hr]; · iexact Hr
    iexact Ha
  iintro %_ Hw
  unfold Work
  icases Hw with ⟨Hb1, Hr, Ha⟩
  iapply (wp_await d L (a := 0) (by decide) 32 _ s9 qa p hO) $$ [HF9 HO]
  · isplitr; · iexact Hlv
    isplitl [HF9]; · iexact HF9
    iexact HO
  iintro ⟨Hb, Hp, Hs9, HO⟩
  iapply (wp_first d L (wp_work0 d L s9 s10 q0 q1 32 hp x)) $$ [Hb Hr Ha]
  · unfold Work
    isplitl [Hb]; · iexact Hb
    isplitl [Hr]; · iexact Hr
    iexact Ha
  iintro %_ Hw
  unfold Work
  icases Hw with ⟨Hb, Hr, Ha⟩
  iapply (wp_first d L (wp_comb d L s9 s10 q0 q1 (acc hp x 16896) f)) $$ [Ha Hu]
  · isplitl [Ha]; · iexact Ha
    iexact Hu
  iintro %_ ⟨Ha, Hu⟩
  rw [wp_ret]
  imodintro
  isplitl [Hb]; · iexact Hb
  isplitl [Hb1]; · iexact Hb1
  isplitl [Hr]; · iexact Hr
  isplitl [Ha]; · iexact Ha
  isplitl [Hu]; · iexact Hu
  isplitl [Hp]; · iexact Hp
  isplitl [Hp1]; · iexact Hp1
  isplitl [Hs9]; · iexact Hs9
  isplitl [Hs10]; · iexact Hs10
  iexact HO

/-! ## The row's load and its result's store -/

/-- `X` and the result, as the tile names them. -/
abbrev xL (d : Dev nD) (L : grid0.Coords) : Loc nD τ sig := (thr d L).loc main_arg0_scv
abbrev oL (d : Dev nD) (L : grid0.Coords) : Loc nD τ sig := (thr d L).loc main_v11_scv

/-- The row the tile works at trip `t`. -/
def rowNo (t : Fin k0_t1_loop.trips) : Fin 256 := ⟨16 * (L 1).val + 8 * (L 0).val + t.val, by
  have h0 : (L 0).val < 2 := (L 0).isLt
  have h1 : (L 1).val < 16 := (L 1).isLt
  have h2 : t.val < 8 := Nat.lt_of_lt_of_le t.isLt k0_t1_abs.2.1
  omega⟩

/-- Row `t` of the tile's, of `X` and of the result. -/
abbrev xRow (t : Fin k0_t1_loop.trips) : Memref sig .scVector .hbm S65536 .f32 :=
  ((xV).slice (Rect.unit (s := S256x65536) (k0_off1 L t) S1x65536.size (k0_off1_inb L t)) (fun _ => rfl)).squeeze S65536 squeezes_S1x65536_S65536
abbrev oRow (t : Fin k0_t1_loop.trips) : Memref sig .scVector .hbm S4096 .f32 :=
  ((oV).slice (Rect.unit (s := S256x4096) (k0_off39 L t) S1x4096.size (k0_off39_inb L t)) (fun _ => rfl)).squeeze S4096 squeezes_S1x4096_S4096

theorem xRow_emb (t : Fin k0_t1_loop.trips) (y : S65536.Idx) : (xRow L t).view.emb y = (ix2 (rowNo L t) (y 0) : S256x65536.Idx) := by
  show (Rect.unit (s := S256x65536) (k0_off1 L t) S1x65536.size (k0_off1_inb L t)).emb (Shape.reshapeEquiv _ y) = _
  rw [unrow]
  funext b; apply Fin.ext
  refine (unit_val (s := S256x65536) _ _ _ _ b).trans ?_
  refine (congrArg (· + _) (congrFun (k0_off1_eq L t) b)).trans ?_
  match b with
  | 0 => rfl
  | 1 => exact Nat.zero_add _
theorem oRow_emb (t : Fin k0_t1_loop.trips) (y : S4096.Idx) : (oRow L t).view.emb y = (ix2 (rowNo L t) (y 0) : S256x4096.Idx) := by
  show (Rect.unit (s := S256x4096) (k0_off39 L t) S1x4096.size (k0_off39_inb L t)).emb (Shape.reshapeEquiv _ y) = _
  rw [unout]
  funext b; apply Fin.ext
  refine (unit_val (s := S256x4096) _ _ _ _ b).trans ?_
  refine (congrArg (· + _) (congrFun (k0_off39_eq L t) b)).trans ?_
  match b with
  | 0 => rfl
  | 1 => exact Nat.zero_add _

theorem xRow_read (t : Fin k0_t1_loop.trips) (X : S256x65536.Idx → F .f32) : (xRow L t).view.read (Elt F) X = rowOf X (rowNo L t) := by
  funext y
  rw [View.read_apply, cast_eq]
  exact congrArg X (xRow_emb L t y)

/-- The tile's eight rows of the result. -/
def block (n : ℕ) : Finset S256x4096.Idx := Finset.univ.filter fun j => (j 0).val / 8 = n
theorem mem_block {n : ℕ} {j : S256x4096.Idx} : j ∈ block n ↔ (j 0).val / 8 = n := by
  simp only [block, Finset.mem_filter, Finset.mem_univ, true_and]
abbrev blockNo : ℕ := 2 * (L 1).val + (L 0).val

theorem oRow_sub (t : Fin k0_t1_loop.trips) : (oRow L t).view.set ⊆ block (blockNo L) := by
  intro j hj
  obtain ⟨x, -, rfl⟩ := Finset.mem_map.mp hj
  rw [oRow_emb]
  refine mem_block.mpr ?_
  have h2 : t.val < 8 := Nat.lt_of_lt_of_le t.isLt k0_t1_abs.2.1
  show (16 * (L 1).val + 8 * (L 0).val + t.val) / 8 = 2 * (L 1).val + (L 0).val
  omega

/-- The result with the tile's first `t` rows done. -/
def outUpto (g f : S256x4096.Idx → F .f32) (t : ℕ) : S256x4096.Idx → F .f32 := fun j =>
  if (j 0).val < 16 * (L 1).val + 8 * (L 0).val + t then g j else f j

/-- A row's store takes the result from `t` rows done to the next. -/
theorem oRow_write (t : Fin k0_t1_loop.trips) (g f : S256x4096.Idx → F .f32) (w : S4096.Idx → F .f32) (hw : ∀ y, w y = g (ix2 (rowNo L t) (y 0))) :
    (oRow L t).view.write (Elt F) (outUpto L g f t.val) w Finset.univ = outUpto L g f (t.val + 1) := by
  funext (j : S256x4096.Idx)
  by_cases hm : j ∈ (oRow L t).view.set
  · obtain ⟨x, -, rfl⟩ := Finset.mem_map.mp hm
    rw [View.write_emb_of_mem _ _ (Finset.mem_univ _), cast_eq, hw, oRow_emb]
    unfold outUpto
    rw [if_pos]
    show 16 * (L 1).val + 8 * (L 0).val + t.val < _
    omega
  · rw [View.write_of_not_mem _ _ _ hm]
    unfold outUpto
    by_cases h : (j 0).val < 16 * (L 1).val + 8 * (L 0).val + t.val
    · rw [if_pos h, if_pos (by omega)]
    · rw [if_neg h, if_neg]
      intro h'
      refine hm (Finset.mem_map.mpr ⟨ix1 (j 1), Finset.mem_univ _, ?_⟩)
      rw [oRow_emb]
      funext b; apply Fin.ext
      match b with
      | 0 => show 16 * (L 1).val + 8 * (L 0).val + t.val = (j 0).val; omega
      | 1 => rfl

/-! ## A row -/

/-- The row's start: the row loaded, the sums cleared, the first chunk there and the second under way. -/
theorem wp_start (v1 c0 c1 : BitVec 32) (t : Fin k0_t1_loop.trips) (qx qa qb : PosShare TreeShare) {p : S270336.Idx → BitVec 32} (hp : WordsOK p)
    (X : S256x65536.Idx → F .f32) {O : CellTallies nD τ sig (HIx 1)} {W : Waits sig (HIx 1)} (hO : ∀ g, O g none = 0)
    (f0 f1 : Buf (Elt F) (bL d L)) (fr : Buf (Elt F) (rL d L)) (fa : Buf (Elt F) (aL d L)) :
    (iprop(levAts (K (F := F)).L (K (F := F)).lev ∗ (bL d L ↦[slotSet 0]{fullShare} f0) ∗ (bL d L ↦[slotSet 1]{fullShare} f1)
        ∗ (rL d L ↦{fullShare} fr) ∗ (aL d L ↦{fullShare} fa) ∗ (xL d L ↦{qx} (X : Buf (Elt F) (xL d L)))
        ∗ (pL d L ↦{qa} (p : Buf (Elt F) (pL d L))) ∗ (pL d L ↦{qb} (p : Buf (Elt F) (pL d L)))
        ∗ semVal (thr d L, .dma s9.sem) 0 ∗ semVal (thr d L, .dma s10.sem) 0 ∗ semVal (thr d L, .dma q0.sem) 0 ∗ Owing d L O W) : sProp 𝕄)
      ⊢ wp frame (wpE (defs₀ (F := F)) 𝒱₀ (thr d L) none) Set.univ (k0_part1 (F := F) L xV (Memref.isWhole_whole _) pV (Memref.isWhole_whole _) oV (Memref.isWhole_whole _) bV (Memref.isWhole_whole _) rV (Memref.isWhole_whole _) aV (Memref.isWhole_whole _) uV (Memref.isWhole_whole _) s9 s10 q0 q1 v1 c0 c1 t) fun _ =>
          iprop(Mid d L s9 s10 0 (by omega) qa qb hp (rowOf X (rowNo L t)) O W ∗ (xL d L ↦{qx} (X : Buf (Elt F) (xL d L)))
            ∗ semVal (thr d L, .dma q0.sem) 0) := by
  rw [k0_part1_eq_skeleton]
  unfold k0_part1_skel
  simp only [Prog.lift, Prog.bind_op, Prog.bind_ret, Prog.pure_eq_ret]
  iintro ⟨#Hlv, Hb0, Hb1, Hr, Ha, Hx, Hpa, Hpb, Hs9, Hs10, Hq0, HO⟩
  ihave HO := (owing_elim d L) $$ HO
  icases HO with ⟨%W', %hW, HO⟩
  ihave Hx' := (pointsTo_split_subset (ℓ := xL d L) (Finset.subset_univ (xRow L t).view.set)).1 $$ Hx
  icases Hx' with ⟨Hx1, Hx2⟩
  iapply (Transfers.wp_dmaLocal (countersEmb (U := UU)) 𝒱₀ (thr d L) none (none : HIx 1) (rV).view.dmaCredit rfl
    (View.amount_pos (rV).view (.dma q0.sem) (by decide)) (src := xRow L t) (dst := rV) (Sd := Finset.univ) (Finset.subset_univ _)) $$ [Hr Hx1 Hq0]
  · isplitl [Hx1]; · iexact Hx1
    isplitl [Hr]; · iexact Hr
    iexact Hq0
  iintro HF
  iapply (Transfers.wp_waitLocalO (countersEmb (U := UU)) 𝒱₀ (thr d L) none (none : HIx 1) rfl) $$ [HF HO]
  · isplitl [HF]; · iexact HF
    isplitl [HO]; · iexact HO
    iapply ((K (F := F)).mayWait_none (SemLoc.dma q0.sem) hO); iexact Hlv
  iintro ⟨⟨Hr, Hx1⟩, Hq0, HO⟩
  ihave Hx := (pointsTo_split_subset (ℓ := xL d L) (Finset.subset_univ (xRow L t).view.set)).2 $$ [Hx1 Hx2]
  · isplitl [Hx1]; · iexact Hx1
    iexact Hx2
  iapply (wp_first d L (wp_zero d L s9 s10 q0 q1 v1 c0 c1 t hp (rowOf X (rowNo L t)) fa)) $$ Ha
  iintro %_ Ha
  iapply (wp_issue d L (a := 0) (by decide) 0 (by decide) s9 qa p f0) $$ [Hb0 Hpa Hs9]
  · isplitl [Hb0]; · iexact Hb0
    isplitl [Hpa]; · iexact Hpa
    iexact Hs9
  iintro HF9
  iapply (wp_issue d L (a := 1) (by decide) 1 (by decide) s10 qb p f1) $$ [Hb1 Hpb Hs10]
  · isplitl [Hb1]; · iexact Hb1
    isplitl [Hpb]; · iexact Hpb
    iexact Hs10
  iintro HF10
  iapply (wp_await d L (a := 0) (by decide) 0 (by decide) s9 qa p (W := W) hO) $$ [HF9 HO]
  · isplitr; · iexact Hlv
    isplitl [HF9]; · iexact HF9
    iapply (owing_insert d L hW) $$ HO
  iintro ⟨Hb0, Hpa, Hs9, HO⟩
  rw [wp_ret]
  imodintro
  isplitr [Hx Hq0]
  · unfold Mid Work
    isplitr; · iexact Hlv
    isplitl [Hb0 Hr Ha]
    · isplitl [Hb0]; · iexact Hb0
      isplitl [Hr]
      · iapply (Entails.of_eq (congrArg (fun f : Buf (Elt F) (rL d L) => (rL d L ↦{fullShare} f : sProp 𝕄))
          ((View.write_whole_univ (cc0_scratch1 : Ref sig .scVector) _ _).trans (xRow_read L t X)))) $$ Hr
      iexact Ha
    isplitl [HF10]; · iexact HF10
    isplitl [Hpa]; · iexact Hpa
    isplitl [Hs9]; · iexact Hs9
    iexact HO
  isplitl [Hx]; · iexact Hx
  iexact Hq0

/-- What the tile holds between rows, `t` of them done. -/
def Idle (qx qa qb : PosShare TreeShare) {p : S270336.Idx → BitVec 32} (hp : WordsOK p) (X : S256x65536.Idx → F .f32) (fo : S256x4096.Idx → F .f32)
    (O : CellTallies nD τ sig (HIx 1)) (W : Waits sig (HIx 1)) (t : ℕ) : sProp 𝕄 :=
  iprop(levAts (K (F := F)).L (K (F := F)).lev ∗ (∃ f, bL d L ↦[slotSet 0]{fullShare} f) ∗ (∃ f, bL d L ↦[slotSet 1]{fullShare} f)
    ∗ (∃ f, rL d L ↦{fullShare} f) ∗ (∃ f, aL d L ↦{fullShare} f) ∗ (∃ f, uL d L ↦{fullShare} f) ∗ (xL d L ↦{qx} (X : Buf (Elt F) (xL d L)))
    ∗ (pL d L ↦{qa} (p : Buf (Elt F) (pL d L))) ∗ (pL d L ↦{qb} (p : Buf (Elt F) (pL d L)))
    ∗ (oL d L ↦[block (blockNo L)]{fullShare} (outUpto L (outAll hp X) fo t : Buf (Elt F) (oL d L)))
    ∗ semVal (thr d L, .dma s9.sem) 0 ∗ semVal (thr d L, .dma s10.sem) 0 ∗ semVal (thr d L, .dma q0.sem) 0 ∗ semVal (thr d L, .dma q1.sem) 0
    ∗ Owing d L O W)

/-- A row worked. -/
theorem wp_row (v1 : BitVec 32) (t : Fin k0_t1_loop.trips) (qx qa qb : PosShare TreeShare) {p : S270336.Idx → BitVec 32} (hp : WordsOK p)
    (X : S256x65536.Idx → F .f32) (fo : S256x4096.Idx → F .f32) {O : CellTallies nD τ sig (HIx 1)} {W : Waits sig (HIx 1)} (hO : ∀ g, O g none = 0) :
    (Idle d L s9 s10 q0 q1 qx qa qb hp X fo O W t.val : sProp 𝕄)
      ⊢ wp frame (wpE (defs₀ (F := F)) 𝒱₀ (thr d L) none) Set.univ (k0_t1_body (F := F) L xV (Memref.isWhole_whole _) pV (Memref.isWhole_whole _) oV (Memref.isWhole_whole _) bV (Memref.isWhole_whole _) rV (Memref.isWhole_whole _) aV (Memref.isWhole_whole _) uV (Memref.isWhole_whole _) s9 s10 q0 q1 v1 t ()) fun _ =>
          Idle d L s9 s10 q0 q1 qx qa qb hp X fo O W (t.val + 1) := by
  unfold k0_t1_body Idle
  simp only [part2_eq, part3_eq, part4_eq, part5_eq, part6_eq, part7_eq, part8_eq, part9_eq, part10_eq, part11_eq, part12_eq, part13_eq, part14_eq, part15_eq, part16_eq, part17_eq, Prog.lift, Prog.bind_op, Prog.bind_ret, Prog.pure_eq_ret]
  iintro ⟨#Hlv, ⟨%f0, Hb0⟩, ⟨%f1, Hb1⟩, ⟨%fr, Hr⟩, ⟨%fa, Ha⟩, ⟨%fu, Hu⟩, Hx, Hpa, Hpb, Ho, Hs9, Hs10, Hq0, Hq1, HO⟩
  iapply (wp_first d L (wp_start d L s9 s10 q0 q1 v1 0#32 1#32 t qx qa qb hp X hO f0 f1 fr fa)) $$ [Hb0 Hb1 Hr Ha Hx Hpa Hpb Hs9 Hs10 Hq0 HO]
  · isplitr; · iexact Hlv
    isplitl [Hb0]; · iexact Hb0
    isplitl [Hb1]; · iexact Hb1
    isplitl [Hr]; · iexact Hr
    isplitl [Ha]; · iexact Ha
    isplitl [Hx]; · iexact Hx
    isplitl [Hpa]; · iexact Hpa
    isplitl [Hpb]; · iexact Hpb
    isplitl [Hs9]; · iexact Hs9
    isplitl [Hs10]; · iexact Hs10
    isplitl [Hq0]; · iexact Hq0
    iexact HO
  iintro %_ ⟨HM, Hx, Hq0⟩
  iapply (wp_first d L (wp_pair d L s9 s10 q0 q1 0 _ qa qb hp (rowOf X (rowNo L t)) hO)) $$ HM
  iintro %_ HM
  iapply (wp_first d L (wp_pair d L s9 s10 q0 q1 1 _ qa qb hp (rowOf X (rowNo L t)) hO)) $$ HM
  iintro %_ HM
  iapply (wp_first d L (wp_pair d L s9 s10 q0 q1 2 _ qa qb hp (rowOf X (rowNo L t)) hO)) $$ HM
  iintro %_ HM
  iapply (wp_first d L (wp_pair d L s9 s10 q0 q1 3 _ qa qb hp (rowOf X (rowNo L t)) hO)) $$ HM
  iintro %_ HM
  iapply (wp_first d L (wp_pair d L s9 s10 q0 q1 4 _ qa qb hp (rowOf X (rowNo L t)) hO)) $$ HM
  iintro %_ HM
  iapply (wp_first d L (wp_pair d L s9 s10 q0 q1 5 _ qa qb hp (rowOf X (rowNo L t)) hO)) $$ HM
  iintro %_ HM
  iapply (wp_first d L (wp_pair d L s9 s10 q0 q1 6 _ qa qb hp (rowOf X (rowNo L t)) hO)) $$ HM
  iintro %_ HM
  iapply (wp_first d L (wp_pair d L s9 s10 q0 q1 7 _ qa qb hp (rowOf X (rowNo L t)) hO)) $$ HM
  iintro %_ HM
  iapply (wp_first d L (wp_pair d L s9 s10 q0 q1 8 _ qa qb hp (rowOf X (rowNo L t)) hO)) $$ HM
  iintro %_ HM
  iapply (wp_first d L (wp_pair d L s9 s10 q0 q1 9 _ qa qb hp (rowOf X (rowNo L t)) hO)) $$ HM
  iintro %_ HM
  iapply (wp_first d L (wp_pair d L s9 s10 q0 q1 10 _ qa qb hp (rowOf X (rowNo L t)) hO)) $$ HM
  iintro %_ HM
  iapply (wp_first d L (wp_pair d L s9 s10 q0 q1 11 _ qa qb hp (rowOf X (rowNo L t)) hO)) $$ HM
  iintro %_ HM
  iapply (wp_first d L (wp_pair d L s9 s10 q0 q1 12 _ qa qb hp (rowOf X (rowNo L t)) hO)) $$ HM
  iintro %_ HM
  iapply (wp_first d L (wp_pair d L s9 s10 q0 q1 13 _ qa qb hp (rowOf X (rowNo L t)) hO)) $$ HM
  iintro %_ HM
  iapply (wp_first d L (wp_pair d L s9 s10 q0 q1 14 _ qa qb hp (rowOf X (rowNo L t)) hO)) $$ HM
  iintro %_ HM
  iapply (wp_first d L (wp_last d L s9 s10 q0 q1 qa qb hp (rowOf X (rowNo L t)) hO fu)) $$ [HM Hu]
  · isplitl [HM]; · iexact HM
    iexact Hu
  iintro %_ ⟨Hb0, Hb1, Hr, Ha, Hu, Hpa, Hpb, Hs9, Hs10, HO⟩
  ihave HO := (owing_elim d L) $$ HO
  icases HO with ⟨%W', %hW, HO⟩
  ihave Hu := (Entails.of_eq (congrArg (fun S => (uL d L ↦[S]{fullShare} (outRow (acc hp (rowOf X (rowNo L t)) 16896) : Buf (Elt F) (uL d L)) : sProp 𝕄))
    (View.set_whole (cc0_scratch3 : Ref sig .scVector)).symm)) $$ Hu
  iapply (Transfers.wp_dmaLocal (countersEmb (U := UU)) 𝒱₀ (thr d L) none (none : HIx 1) (oRow L t).view.dmaCredit rfl
    (View.amount_pos (oRow L t).view (.dma q1.sem) (by decide)) (src := uV) (dst := oRow L t) (Sd := block (blockNo L)) (oRow_sub L t)) $$ [Hu Ho Hq1]
  · isplitl [Hu]; · iexact Hu
    isplitl [Ho]; · iexact Ho
    iexact Hq1
  iintro HF
  iapply (Transfers.wp_waitLocalO (countersEmb (U := UU)) 𝒱₀ (thr d L) none (none : HIx 1) rfl) $$ [HF HO]
  · isplitl [HF]; · iexact HF
    isplitl [HO]; · iexact HO
    iapply ((K (F := F)).mayWait_none (SemLoc.dma q1.sem) hO); iexact Hlv
  iintro ⟨⟨Ho, Hu⟩, Hq1, HO⟩
  rw [wp_ret]
  imodintro
  isplitr; · iexact Hlv
  isplitl [Hb0]; · iexists _; iexact Hb0
  isplitl [Hb1]; · iexists _; iexact Hb1
  isplitl [Hr]; · iexists _; iexact Hr
  isplitl [Ha]; · iexists _; iexact Ha
  isplitl [Hu]
  · iexists _
    iapply (Entails.of_eq (congrArg (fun S => (uL d L ↦[S]{fullShare} (outRow (acc hp (rowOf X (rowNo L t)) 16896) : Buf (Elt F) (uL d L)) : sProp 𝕄))
      (View.set_whole (cc0_scratch3 : Ref sig .scVector)))) $$ Hu
  isplitl [Hx]; · iexact Hx
  isplitl [Hpa]; · iexact Hpa
  isplitl [Hpb]; · iexact Hpb
  isplitl [Ho]
  · iapply (Entails.of_eq (congrArg (fun f : Buf (Elt F) (oL d L) => (oL d L ↦[block (blockNo L)]{fullShare} f : sProp 𝕄))
      (oRow_write L t (outAll hp X) fo ((uV).view.read (Elt F) (outRow (acc hp (rowOf X (rowNo L t)) 16896))) (fun y => rfl)))) $$ Ho
  isplitl [Hs9]; · iexact Hs9
  isplitl [Hs10]; · iexact Hs10
  isplitl [Hq0]; · iexact Hq0
  isplitl [Hq1]; · iexact Hq1
  iapply (owing_insert d L hW) $$ HO

/-- The tile's eight rows worked. -/
theorem wp_tile (qx qa qb : PosShare TreeShare) {p : S270336.Idx → BitVec 32} (hp : WordsOK p)
    (X : S256x65536.Idx → F .f32) (fo : S256x4096.Idx → F .f32) {O : CellTallies nD τ sig (HIx 1)} {W : Waits sig (HIx 1)} (hO : ∀ g, O g none = 0) :
    (Idle d L s9 s10 q0 q1 qx qa qb hp X fo O W 0 : sProp 𝕄)
      ⊢ wp frame (wpE (defs₀ (F := F)) 𝒱₀ (thr d L) none) Set.univ (cc0_sc_kernel (F := F) L xV (Memref.isWhole_whole _) pV (Memref.isWhole_whole _) oV (Memref.isWhole_whole _) bV (Memref.isWhole_whole _) rV (Memref.isWhole_whole _) aV (Memref.isWhole_whole _) uV (Memref.isWhole_whole _) s9 s10 q0 q1) fun _ =>
          Idle d L s9 s10 q0 q1 qx qa qb hp X fo O W 8 := by
  rw [cc0_sc_kernel_eq_skeleton]
  unfold cc0_sc_kernel_skel
  iintro H
  iapply (Scf.wp_for_bind _ _ _ _ _ _ k0_t1_ok () _ (fun t _ => (Idle d L s9 s10 q0 q1 qx qa qb hp X fo O W t : sProp 𝕄))
    (fun t u => wp_row d L s9 s10 q0 q1 _ t qx qa qb hp X fo hO)) $$ H
  iintro %_ H
  rw [show Scf.trips k0_t1_loop.lb k0_t1_loop.ub k0_t1_loop.st = 8 by decide]
  rw [Prog.pure_eq_ret, wp_ret]
  imodintro
  iexact H

end Cert.Proof.Row

end
-- ==== Proof.Launch.lean ====
/-
  The call: what one tile is handed and hands back, how a SparseCore's operands split into its sixteen tiles' and the
  results gather, and each tile's task from `wp_tile`.
-/
module

public import proofs.«01_k».proof.Defs
public import proofs.«01_k».proof.Proof.Row

@[expose] public section

noncomputable section

namespace Cert.Proof.Launch

open Cert.KernelIdeal Cert.KernelIdeal.Gen Cert.Proof.Vals Cert.Proof.Tile Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S256x65536 EltTy.f32)
local notation "pV" => (Memref.whole Cert.KernelIdeal.main_v10_scv : Memref Cert.KernelIdeal.sig Kind.scVector Space.hbm Cert.KernelIdeal.S270336 EltTy.i32)
local notation "oV" => (Memref.whole Cert.KernelIdeal.main_v11_scv : Memref Cert.KernelIdeal.sig Kind.scVector Space.hbm Cert.KernelIdeal.S256x4096 EltTy.f32)
local notation "bV" => (Memref.whole Cert.KernelIdeal.cc0_scratch0 : Memref Cert.KernelIdeal.sig Kind.scVector Space.vmem Cert.KernelIdeal.S2x8192 EltTy.i32)
local notation "rV" => (Memref.whole Cert.KernelIdeal.cc0_scratch1 : Memref Cert.KernelIdeal.sig Kind.scVector Space.vmem Cert.KernelIdeal.S65536 EltTy.f32)
local notation "aV" => (Memref.whole Cert.KernelIdeal.cc0_scratch2 : Memref Cert.KernelIdeal.sig Kind.scVector Space.vmem Cert.KernelIdeal.S8208 EltTy.f32)
local notation "uV" => (Memref.whole Cert.KernelIdeal.cc0_scratch3 : Memref Cert.KernelIdeal.sig Kind.scVector Space.vmem Cert.KernelIdeal.S4096 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays and the shares -/

abbrev xLoc (d : Dev nD) : Loc nD τ sig := (SparseCore.T d).loc main_arg0
abbrev pLoc (d : Dev nD) : Loc nD τ sig := (SparseCore.T d).loc main_v10
abbrev oLoc (d : Dev nD) : Loc nD τ sig := (SparseCore.T d).loc main_v11

/-- SparseCore `c`'s read share of an operand, and its tile `i`'s. -/
abbrev coreShare (c : ℕ) : PosShare TreeShare := Transfers.shareTokN fullShare c
abbrev tileShare (c i : ℕ) : PosShare TreeShare := Transfers.shareTokN (coreShare c) i

/-- The elements of the result that SparseCore `c` writes. -/
def coreSet (c : ℕ) : Finset S256x4096.Idx := Finset.univ.filter fun j => (j 0).val / 8 % 2 = c

theorem mem_core {c : ℕ} {j : S256x4096.Idx} : j ∈ coreSet c ↔ (j 0).val / 8 % 2 = c := by
  simp only [coreSet, Finset.mem_filter, Finset.mem_univ, true_and]

theorem cores_cover : (Finset.univ : Finset (Fin 2)).biUnion (fun c => coreSet c.val) = Finset.univ := by
  refine Finset.ext fun j => ⟨fun _ => Finset.mem_univ _, fun _ => Finset.mem_biUnion.mpr ⟨⟨(j 0).val / 8 % 2, Nat.mod_lt _ (by decide)⟩, Finset.mem_univ _, mem_core.mpr rfl⟩⟩

theorem cores_disjoint : ∀ c ∈ (Finset.univ : Finset (Fin 2)), ∀ c' ∈ (Finset.univ : Finset (Fin 2)), c ≠ c' → Disjoint (coreSet c.val) (coreSet c'.val) :=
  fun c _ c' _ h => Finset.disjoint_left.mpr fun j h₁ h₂ => h (Fin.ext ((mem_core.mp h₁).symm.trans (mem_core.mp h₂)))

theorem tiles_cover (c : ℕ) (hc : c < 2) : (Finset.univ : Finset (Fin 16)).biUnion (fun i => block (2 * i.val + c)) = coreSet c := by
  refine Finset.ext fun j => ?_
  have hj : (j 0).val < 256 := (j 0).isLt
  constructor
  · intro h
    obtain ⟨i, -, hi⟩ := Finset.mem_biUnion.mp h
    rw [mem_block] at hi
    exact mem_core.mpr (by omega)
  · intro h
    rw [mem_core] at h
    exact Finset.mem_biUnion.mpr ⟨⟨(j 0).val / 8 / 2, by omega⟩, Finset.mem_univ _, mem_block.mpr (by
      show (j 0).val / 8 = 2 * ((j 0).val / 8 / 2) + c
      omega)⟩

theorem tiles_disjoint (c : ℕ) : ∀ i ∈ (Finset.univ : Finset (Fin 16)), ∀ i' ∈ (Finset.univ : Finset (Fin 16)), i ≠ i' →
    Disjoint (block (2 * i.val + c)) (block (2 * i'.val + c)) :=
  fun i _ i' _ h => Finset.disjoint_left.mpr fun j h₁ h₂ => h (Fin.ext (by
    have a := mem_block.mp h₁; have b := mem_block.mp h₂; omega))

/-- The whole result is its SparseCores' parts, and each of those its tiles' blocks. -/
theorem out_cores (d : Dev nD) (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) cores_disjoint, cores_cover]

theorem out_tiles (d : Dev nD) (c : ℕ) (hc : c < 2) (f : Buf (Elt F) (oLoc d)) :
    (oLoc d ↦[coreSet c]{fullShare} f : sProp 𝕄) = bigSep Finset.univ fun i : Fin 16 => oLoc d ↦[block (2 * i.val + c)]{fullShare} f := by
  rw [← pointsTo_biUnion Finset.univ (ℓ := oLoc d) (fun i : Fin 16 => block (2 * i.val + c)) (tiles_disjoint c), tiles_cover c hc]

variable [FloatOps F]

/-! ## What the call carries -/

/-- The call's operands and the result's contents before and after, on every device. -/
structure Args (F : FTy → Type) where
  x : (d : Dev nD) → S256x65536.Idx → F .f32
  p : (d : Dev nD) → S270336.Idx → BitVec 32
  ok : ∀ d, WordsOK (p d)
  o : (d : Dev nD) → S256x4096.Idx → F .f32

variable (R : Args F)

/-- What a SparseCore holds around the call, and what one tile does: read shares of the operands, and its part of the
    result. -/
abbrev corePts (d : Dev nD) (c : ℕ) (f : S256x4096.Idx → F .f32) : sProp 𝕄 :=
  iprop((xLoc d ↦{coreShare c} (R.x d : Buf (Elt F) (xLoc d))) ∗ (pLoc d ↦{coreShare c} (R.p d : Buf (Elt F) (pLoc d)))
    ∗ oLoc d ↦[coreSet c]{fullShare} (f : Buf (Elt F) (oLoc d)))
abbrev tilePts (d : Dev nD) (c i : ℕ) (f : S256x4096.Idx → F .f32) : sProp 𝕄 :=
  iprop((xLoc d ↦{tileShare c i} (R.x d : Buf (Elt F) (xLoc d))) ∗ (pLoc d ↦{tileShare c i} (R.p d : Buf (Elt F) (pLoc d)))
    ∗ oLoc d ↦[block (2 * i + c)]{fullShare} (f : Buf (Elt F) (oLoc d)))

/-- The result after the call. -/
abbrev Args.out (d : Dev nD) : S256x4096.Idx → F .f32 := outAll (R.ok d) (R.x d)

def P : (K (F := F)).Pay (nD := nD) (Val := Elt F) (Name := ℕ) (U := UU) where
  st := fun q d c => match q with | 0 => corePts R d c.val (R.o d)
  dn := fun q d c => match q with | 0 => corePts R d c.val (R.out d)
  go := fun q d c i => match q with | 0 => tilePts R d c.val i.val (R.o d)
  td := fun q d c i => match q with | 0 => tilePts R d c.val i.val (R.out d)
  x := fun _ _ => iprop(emp)

instance P_storable : (P R).IsStorable where
  st q d c := match q with | 0 => (inferInstance : BI.Storable (upEmb : UEmb _ 𝕄) (corePts R d c.val (R.o d)))
  dn q d c := match q with | 0 => (inferInstance : BI.Storable (upEmb : UEmb _ 𝕄) (corePts R d c.val (R.out d)))
  go q d c i := match q with | 0 => (inferInstance : BI.Storable (upEmb : UEmb _ 𝕄) (tilePts R d c.val i.val (R.o d)))
  td q d c i := match q with | 0 => (inferInstance : BI.Storable (upEmb : UEmb _ 𝕄) (tilePts R d c.val i.val (R.out d)))

/-! ## The split -/

/-- Sixteen tiles of a SparseCore hold between them what the SparseCore holds, but for a remainder of the read shares. -/
theorem core_tiles (d : Dev nD) (c : ℕ) (hc : c < 2) (f : S256x4096.Idx → F .f32) :
    (corePts R d c f : sProp 𝕄) ⊣⊢ iprop(((xLoc d ↦{Transfers.shareDrop (coreShare c) 16} (R.x d : Buf (Elt F) (xLoc d)))
        ∗ (pLoc d ↦{Transfers.shareDrop (coreShare c) 16} (R.p d : Buf (Elt F) (pLoc d)))) ∗ bigSep Finset.univ fun i : Fin 16 => tilePts R d c i.val f) := by
  unfold corePts tilePts
  rw [bigSep_sep', bigSep_sep', out_tiles d c hc]
  constructor
  · iintro ⟨Hx, Hp, Ho⟩
    ihave Hx' := (Transfers.pointsTo_toks_split (coreShare c) 16) $$ Hx
    ihave Hp' := (Transfers.pointsTo_toks_split (coreShare c) 16) $$ Hp
    icases Hx' with ⟨Hx0, Hx⟩
    icases Hp' with ⟨Hp0, Hp⟩
    isplitl [Hx0 Hp0]
    · isplitl [Hx0] <;> iassumption
    isplitl [Hx]; · iexact Hx
    isplitl [Hp]; · iexact Hp
    iexact Ho
  · iintro ⟨⟨Hx0, Hp0⟩, Hx, Hp, Ho⟩
    isplitl [Hx0 Hx]
    · iapply (Transfers.pointsTo_toks_join (coreShare c) 16)
      isplitl [Hx0] <;> iassumption
    isplitl [Hp0 Hp]
    · iapply (Transfers.pointsTo_toks_join (coreShare c) 16)
      isplitl [Hp0] <;> iassumption
    iexact Ho

theorem vecSplit : (K (F := F)).VecSplit' (P R) 0 := by
  intro d c
  have hc : c.val < 2 := c.isLt
  show corePts R d c.val (R.o d) ⊢ |={Set.univ}=> iprop((bigSep Finset.univ fun i : Fin 16 => tilePts R d c.val i.val (R.o d))
      ∗ ((bigSep Finset.univ fun i : Fin 16 => tilePts R d c.val i.val (R.out d)) -∗ corePts R d c.val (R.out d)))
  iintro H
  ihave H := (core_tiles R d c.val hc (R.o d)).1 $$ H
  icases H with ⟨H0, H⟩
  imodintro
  isplitl [H]; · iexact H
  iintro H
  iapply (core_tiles R d c.val hc (R.out d)).2
  isplitl [H0] <;> iassumption

/-! ## A tile's scratch -/

section Scratch

variable (d : Dev nD) (L : grid0.Coords)

abbrev cell (s : DmaSems sig S_) : GSem nD τ sig := (thr d L, .dma s.sem)

theorem cell_own (s : DmaSems sig S_) (h : (SemLoc.dma s.sem : SemLoc sig).isScoped .scVector = true) : cell d L s ∈ ownCells (thr d L) :=
  mem_ownCells.mpr ⟨rfl, h⟩
theorem cell_ne {s s' : DmaSems sig S_} (h : s.sem ≠ s'.sem) : cell d L s ≠ cell d L s' := by
  intro e; apply h
  have := congrArg Prod.snd e
  exact SemLoc.dma.inj this

/-- The semaphores of a tile are the kernel's four and the rest. -/
theorem sems_eq : ∃ A : Finset (GSem nD τ sig), (ownSems0 (thr d L) : sProp 𝕄)
    = iprop(semVal (cell d L cc0_scratch4) 0 ∗ semVal (cell d L cc0_scratch5) 0 ∗ semVal (cell d L cc0_scoped0) 0 ∗ semVal (cell d L cc0_scoped1) 0
        ∗ bigSep A fun g => semVal g 0) := by
  refine ⟨((((ownCells (thr d L)).erase (cell d L cc0_scratch4)).erase (cell d L cc0_scratch5)).erase (cell d L cc0_scoped0)).erase (cell d L cc0_scoped1), ?_⟩
  unfold SparseCore.Cfg.ownSems0
  rw [SparseCore.bigSep_erase' (cell_own d L cc0_scratch4 (by decide)),
    SparseCore.bigSep_erase' (Finset.mem_erase.mpr ⟨cell_ne d L (by decide), cell_own d L cc0_scratch5 (by decide)⟩),
    SparseCore.bigSep_erase' (Finset.mem_erase.mpr ⟨cell_ne d L (by decide), Finset.mem_erase.mpr ⟨cell_ne d L (by decide), cell_own d L cc0_scoped0 (by decide)⟩⟩),
    SparseCore.bigSep_erase' (Finset.mem_erase.mpr ⟨cell_ne d L (by decide), Finset.mem_erase.mpr ⟨cell_ne d L (by decide), Finset.mem_erase.mpr ⟨cell_ne d L (by decide),
      cell_own d L cc0_scoped1 (by decide)⟩⟩⟩)]

abbrev sref (b : Ref sig .scVector) : DevRef τ sig := (Proc.scVector (cV L) (jV L)).devRef b

theorem sref_ne {b b' : Ref sig .scVector} (h : b ≠ b') : sref L b ≠ sref L b' := fun e => h (Proc.devRef_injective _ e)

/-- The buffers of a tile are the kernel's four and the rest. -/
theorem bufs_eq : ∃ A : Finset (DevRef τ sig), (ownBufs (thr d L) : sProp 𝕄)
    = iprop((∃ f, bL d L ↦{fullShare} f) ∗ (∃ f, rL d L ↦{fullShare} f) ∗ (∃ f, aL d L ↦{fullShare} f) ∗ (∃ f, uL d L ↦{fullShare} f)
        ∗ bigSep A fun b => iprop(∃ f, ((d, b) : Loc nD τ sig) ↦{fullShare} f)) := by
  have own (b : Ref sig .scVector) (h : (sref L b).owner = (sref L cc0_scratch0).owner) : sref L b ∈ ownRefs (τ := τ) (.scVector (cV L) (jV L)) :=
    SparseCore.Cfg.mem_ownRefs_of_owner (p := Proc.scVector (cV L) (jV L)) (b := sref L b) h
  refine ⟨((((ownRefs (τ := τ) (.scVector (cV L) (jV L))).erase (sref L cc0_scratch0)).erase (sref L cc0_scratch1)).erase (sref L cc0_scratch2)).erase (sref L cc0_scratch3), ?_⟩
  unfold SparseCore.Cfg.ownBufs
  refine (SparseCore.bigSep_erase' (own cc0_scratch0 rfl)).trans ?_
  rw [SparseCore.bigSep_erase' (Finset.mem_erase.mpr ⟨sref_ne L (show (cc0_scratch1 : Ref sig .scVector) ≠ cc0_scratch0 by decide), own cc0_scratch1 rfl⟩),
    SparseCore.bigSep_erase' (Finset.mem_erase.mpr ⟨sref_ne L (show (cc0_scratch2 : Ref sig .scVector) ≠ cc0_scratch1 by decide), Finset.mem_erase.mpr
      ⟨sref_ne L (show (cc0_scratch2 : Ref sig .scVector) ≠ cc0_scratch0 by decide), own cc0_scratch2 rfl⟩⟩),
    SparseCore.bigSep_erase' (Finset.mem_erase.mpr ⟨sref_ne L (show (cc0_scratch3 : Ref sig .scVector) ≠ cc0_scratch2 by decide), Finset.mem_erase.mpr
      ⟨sref_ne L (show (cc0_scratch3 : Ref sig .scVector) ≠ cc0_scratch1 by decide), Finset.mem_erase.mpr
        ⟨sref_ne L (show (cc0_scratch3 : Ref sig .scVector) ≠ cc0_scratch0 by decide), own cc0_scratch3 rfl⟩⟩⟩)]

theorem slots_cover : slotSet 0 ∪ slotSet 1 = (Finset.univ : Finset S2x8192.Idx) := by
  refine Finset.ext fun j => ⟨fun _ => Finset.mem_univ _, fun _ => ?_⟩
  have hj : (j 0).val < 2 := (j 0).isLt
  rw [Finset.mem_union, mem_slot, mem_slot]; omega
theorem slots_disjoint : Disjoint (slotSet 0) (slotSet 1) :=
  Finset.disjoint_left.mpr fun j h₁ h₂ => by rw [mem_slot] at h₁ h₂; omega

/-- The chunk buffer is its two halves, each at some contents. -/
theorem halves : (iprop(∃ f, bL d L ↦{fullShare} f) : sProp 𝕄) ⊣⊢ iprop((∃ f, bL d L ↦[slotSet 0]{fullShare} f) ∗ ∃ f, bL d L ↦[slotSet 1]{fullShare} f) := by
  constructor
  · iintro ⟨%f, H⟩
    ihave H := (show (bL d L ↦{fullShare} f : sProp 𝕄) ⊢ iprop((bL d L ↦[slotSet 0]{fullShare} f) ∗ bL d L ↦[slotSet 1]{fullShare} f) from by
      refine BIBase.Entails.trans (Entails.of_eq ?_) (pointsTo_union (ℓ := bL d L) slots_disjoint).1
      rw [slots_cover]) $$ H
    icases H with ⟨H0, H1⟩
    isplitl [H0]
    · iexists f; iexact H0
    · iexists f; iexact H1
  · iintro ⟨⟨%f, H0⟩, %g, H1⟩
    ihave H := (pointsTo_join (ℓ := bL d L) (f := f) (g := g) (q := fullShare) slots_disjoint) $$ [H0 H1]
    · isplitl [H0] <;> iassumption
    rw [slots_cover]
    iexists _; iexact H

end Scratch

/-! ## A tile's task -/

section Task

variable (d : Dev nD) (L : grid0.Coords)

theorem upto_start (g f : S256x4096.Idx → F .f32) : ∀ j ∈ block (blockNo L), outUpto L g f 0 j = f j := fun j hj => by
  have e : (j 0).val / 8 = 2 * (L 1).val + (L 0).val := mem_block.mp hj
  unfold outUpto; rw [if_neg (by omega)]
theorem upto_end (g f : S256x4096.Idx → F .f32) : ∀ j ∈ block (blockNo L), outUpto L g f 8 j = g j := fun j hj => by
  have e : (j 0).val / 8 = 2 * (L 1).val + (L 0).val := mem_block.mp hj
  unfold outUpto; rw [if_pos (by omega)]

/-- A tile's task: from its read shares of the operands and its block of the result to the same with the block at the
    call's result, its scratch and its counters back as they were lent. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts R d (L 0).val (L 1).val (R.o d)
        ∗ scopedBufs (thr d L) ∗ scopedSems0 (thr d L) ∗ owes (thr d L) O W)
      ⊢ wp frame (wpE (defs₀ (F := F)) 𝒱₀ (thr d L) none) Set.univ
          (cc0_sc_kernel (F := F) L xV (Memref.isWhole_whole _) pV (Memref.isWhole_whole _) oV (Memref.isWhole_whole _) bV (Memref.isWhole_whole _) rV (Memref.isWhole_whole _) aV (Memref.isWhole_whole _) uV (Memref.isWhole_whole _) cc0_scratch4 cc0_scratch5 cc0_scoped0 cc0_scoped1)
          fun _ => iprop(tilePts R d (L 0).val (L 1).val (R.out d) ∗ scopedBufs (thr d L) ∗ scopedSems0 (thr d L)
            ∗ ∃ W', ⌜∀ p ∈ W', p ∈ W ∨ p.2 = none⌝ ∗ owes (thr d L) O W') := by
  obtain ⟨A, hA⟩ := sems_eq (F := F) d L
  obtain ⟨B, hB⟩ := bufs_eq (F := F) d L
  rw [(K (F := F)).scopedBufs_V hF d (cV L) (jV L), SparseCore.Cfg.scopedSems0_V (Val := Elt F) d (cV L) (jV L), hA, hB]
  iintro ⟨#Hlv, -, ⟨Hx, Hp, Ho⟩, ⟨Hb, Hr, Ha, Hu, Hbufs⟩, ⟨Hs9, Hs10, Hq0, Hq1, Hsems⟩, HO⟩
  ihave Hb' := (halves (F := F) d L).1 $$ Hb
  icases Hb' with ⟨Hb0, Hb1⟩
  ihave Hp' := (pointsTo_share (ℓ := pL d L) (PosShare.mem_left_op_right (tileShare (L 0).val (L 1).val))).1 $$ Hp
  icases Hp' with ⟨Hpa, Hpb⟩
  iapply ((wp_tile d L cc0_scratch4 cc0_scratch5 cc0_scoped0 cc0_scoped1 (tileShare (L 0).val (L 1).val) (tileShare (L 0).val (L 1).val).left
    (tileShare (L 0).val (L 1).val).right (R.ok d) (R.x d) (R.o d) hO).trans (wp_wand _ _ _)) $$ [Hb0 Hb1 Hr Ha Hu Hx Hpa Hpb Ho Hs9 Hs10 Hq0 Hq1 HO]
  · unfold Idle
    isplitr; · iexact Hlv
    isplitl [Hb0]; · iexact Hb0
    isplitl [Hb1]; · iexact Hb1
    isplitl [Hr]; · iexact Hr
    isplitl [Ha]; · iexact Ha
    isplitl [Hu]; · iexact Hu
    isplitl [Hx]; · iexact Hx
    isplitl [Hpa]; · iexact Hpa
    isplitl [Hpb]; · iexact Hpb
    isplitl [Ho]
    · iapply (Entails.of_eq (pointsTo_congr (ℓ := oL d L) (upto_start L (R.out d) (R.o d))).symm); iexact Ho
    isplitl [Hs9]; · iexact Hs9
    isplitl [Hs10]; · iexact Hs10
    isplitl [Hq0]; · iexact Hq0
    isplitl [Hq1]; · iexact Hq1
    unfold Owing
    iexists W
    isplitr; · ipureintro; exact fun p hp => .inl hp
    iexact HO
  iintro %_ H
  unfold Idle Owing
  icases H with ⟨-, Hb0, Hb1, Hr, Ha, Hu, Hx, Hpa, Hpb, Ho, Hs9, Hs10, Hq0, Hq1, HO⟩
  isplitl [Hx Hpa Hpb Ho]
  · isplitl [Hx]; · iexact Hx
    isplitl [Hpa Hpb]
    · iapply (pointsTo_share (ℓ := pL d L) (PosShare.mem_left_op_right (tileShare (L 0).val (L 1).val))).2
      isplitl [Hpa] <;> iassumption
    iapply (Entails.of_eq (pointsTo_congr (ℓ := oL d L) (upto_end L (R.out d) (R.o d)))); iexact Ho
  isplitl [Hb0 Hb1 Hr Ha Hu Hbufs]
  · isplitl [Hb0 Hb1]
    · iapply (halves (F := F) d L).2
      isplitl [Hb0] <;> iassumption
    isplitl [Hr]; · iexact Hr
    isplitl [Ha]; · iexact Ha
    isplitl [Hu]; · iexact Hu
    iexact Hbufs
  isplitl [Hs9 Hs10 Hq0 Hq1 Hsems]
  · isplitl [Hs9]; · iexact Hs9
    isplitl [Hs10]; · iexact Hs10
    isplitl [Hq0]; · iexact Hq0
    isplitl [Hq1]; · iexact Hq1
    iexact Hsems
  iexact HO

end Task

/-! ## The call's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (F := F) (coordsV c s)
          xV (Memref.isWhole_whole _) pV (Memref.isWhole_whole _) oV (Memref.isWhole_whole _) bV (Memref.isWhole_whole _) rV (Memref.isWhole_whole _) aV (Memref.isWhole_whole _) uV (Memref.isWhole_whole _) cc0_scratch4 cc0_scratch5 cc0_scoped0 cc0_scoped1) ⟨⟩ c s := rfl

/-- The waits a task leaves, weakened to what the launch asks of them. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P R) v₀ 0 := by
  intro d c i O W hO _ _
  simp only [show (P R).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body R d (coordsV ⟨_, hci.1⟩ ⟨_, hci.2⟩) hF O W hO).trans (wp_mono frame _ _ fun _ => waits_weaken)

end Cert.Proof.Launch

end
-- ==== Proof.Run.lean ====
/-
  The whole program's run: the host operations that pack the words, the call, and what is in memory at the end.
-/
module

public import proofs.«01_k».proof.Defs
public import proofs.«01_k».proof.Proof.Launch
public import Idealize.ShloMosaic.Lib.Pipeline.Frame

@[expose] public section

noncomputable section

namespace Cert.Proof.Run

open Cert.KernelIdeal Cert.KernelIdeal.Gen Cert.Proof.Vals Cert.Proof.Tile Cert.Proof.Row Cert.Proof.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The host operations -/

/-- The words of the packed array: a column in the low half, a row moved up by 4096 where the value is negative in the
    high half, and 1901 words of row 8192 behind. -/
def packed (row col : S268435.Idx → BitVec 32) (vals : S268435.Idx → F .f32) : S270336.Idx → BitVec 32 :=
  concatenate S270336 0 [⟨S268435, ori col (Host.shli (addi row (muli (broadcastInDim S268435 ![] bcast_S_S268435 (constantI S_ 32 4096#32))
      (extui 32 (cmpf .olt vals (broadcastInDim S268435 ![] bcast_S_S268435 (constant S_ .f32 0x00000000#32))) natLt_1_32)))
      (broadcastInDim S268435 ![] bcast_S_S268435 (constantI S_ 32 16#32)))⟩,
    ⟨S1901, broadcastInDim S1901 ![] bcast_S_S1901 (constantI S_ 32 536870912#32)⟩] concatenates_S268435_S1901_S270336_d0

/-- The host operations before the call, in order. -/
abbrev ops : List (HloOp τ sig (Elt F)) := [
  StableHlo.nullary main_cst (constant S_ .f32 0x00000000#32),
  StableHlo.unary main_cst main_v0 (broadcastInDim S268435 ![] bcast_S_S268435 : (⟨S_, .f32⟩ : BufTy).Contents (Elt F) → (⟨S268435, .f32⟩ : BufTy).Contents (Elt F)),
  StableHlo.binary main_arg3 main_v0 main_v1 (cmpf .olt : (⟨S268435, .f32⟩ : BufTy).Contents (Elt F) → (⟨S268435, .f32⟩ : BufTy).Contents (Elt F) → (⟨S268435, .i1⟩ : BufTy).Contents (Elt F)),
  StableHlo.unary main_v1 main_v2 ((extui 32 · natLt_1_32) : (⟨S268435, .i1⟩ : BufTy).Contents (Elt F) → (⟨S268435, .i32⟩ : BufTy).Contents (Elt F)),
  StableHlo.nullary main_c (constantI S_ 32 4096#32),
  StableHlo.unary main_c main_v3 (broadcastInDim S268435 ![] bcast_S_S268435 : (⟨S_, .i32⟩ : BufTy).Contents (Elt F) → (⟨S268435, .i32⟩ : BufTy).Contents (Elt F)),
  StableHlo.binary main_v3 main_v2 main_v4 (muli : (⟨S268435, .i32⟩ : BufTy).Contents (Elt F) → (⟨S268435, .i32⟩ : BufTy).Contents (Elt F) → (⟨S268435, .i32⟩ : BufTy).Contents (Elt F)),
  StableHlo.binary main_arg1 main_v4 main_v5 (addi : (⟨S268435, .i32⟩ : BufTy).Contents (Elt F) → (⟨S268435, .i32⟩ : BufTy).Contents (Elt F) → (⟨S268435, .i32⟩ : BufTy).Contents (Elt F)),
  StableHlo.nullary main_c_0 (constantI S_ 32 16#32),
  StableHlo.unary main_c_0 main_v6 (broadcastInDim S268435 ![] bcast_S_S268435 : (⟨S_, .i32⟩ : BufTy).Contents (Elt F) → (⟨S268435, .i32⟩ : BufTy).Contents (Elt F)),
  StableHlo.binary main_v5 main_v6 main_v7 (Host.shli : (⟨S268435, .i32⟩ : BufTy).Contents (Elt F) → (⟨S268435, .i32⟩ : BufTy).Contents (Elt F) → (⟨S268435, .i32⟩ : BufTy).Contents (Elt F)),
  StableHlo.binary main_arg2 main_v7 main_v8 (ori : (⟨S268435, .i32⟩ : BufTy).Contents (Elt F) → (⟨S268435, .i32⟩ : BufTy).Contents (Elt F) → (⟨S268435, .i32⟩ : BufTy).Contents (Elt F)),
  StableHlo.nullary main_c_1 (constantI S_ 32 536870912#32),
  StableHlo.unary main_c_1 main_v9 (broadcastInDim S1901 ![] bcast_S_S1901 : (⟨S_, .i32⟩ : BufTy).Contents (Elt F) → (⟨S1901, .i32⟩ : BufTy).Contents (Elt F)),
  StableHlo.binary main_v8 main_v9 main_v10 ((fun a b => concatenate S270336 0 [⟨S268435, a⟩, ⟨S1901, b⟩] concatenates_S268435_S1901_S270336_d0) : (⟨S268435, .i32⟩ : BufTy).Contents (Elt F) → (⟨S1901, .i32⟩ : BufTy).Contents (Elt F) → (⟨S270336, .i32⟩ : BufTy).Contents (Elt F))]

abbrev written : List (Ref sig .tc) := [main_cst, main_v0, main_v1, main_v2, main_c, main_v3, main_v4, main_v5, main_c_0, main_v6, main_v7, main_v8, main_c_1, main_v9, main_v10]

theorem ops_writes : (ops (F := F)).map HloOp.writes = written.map fun r => {Proc.devRef (τ := τ) .tc r} := rfl

theorem kept (V : Valuation τ sig (Elt F)) {r : Ref sig .tc} (hr : r ∉ written) : StableHlo.after ops V (Proc.devRef .tc r) = V (Proc.devRef .tc r) :=
  StableHlo.after_of_writes_sub (W := written) ops V (StableHlo.forall_writes_sub_of_map ops_writes) hr

theorem main_eq (d : Dev nD) : main (F := F) d = StableHlo.seq ops >>= fun _ => ((sc (F := F)).run d 0 >>= fun _ => pure ⟨⟩) := by
  rw [StableHlo.seq_bind_seqK]; rfl

/-- They touch only the TensorCore's unscoped arrays, and none chooses its result's contents. -/
theorem ops_sub : ∀ op ∈ ops (F := F), op.bufs ⊆ Pipeline.ucRefs τ sig := by
  intro op hop
  refine Pipeline.sub_ucRefs op ?_
  revert op
  simp only [List.forall_mem_cons, List.not_mem_nil, false_imp_iff, implies_true, and_true, StableHlo.nullary_bufs_sub, StableHlo.unary_bufs_sub,
    StableHlo.binary_bufs_sub]
theorem ops_fresh : ∀ op ∈ ops (F := F), op.fresh = ∅ :=
  List.forall_iff_forall_mem.mp (StableHlo.forall_fresh_of_map rfl)

/-- What the packed array holds after them. -/
theorem after_packed (V : Valuation τ sig (Elt F)) : StableHlo.after ops V (Proc.devRef .tc main_v10)
    = packed (F := F) (V (Proc.devRef .tc main_arg1)) (V (Proc.devRef .tc main_arg2)) (V (Proc.devRef .tc main_arg3)) := by
  after_results_simp
  rfl

/-! ## The launch memory and what the call carries -/

variable (m : (ℓ : Loc nD τ sig) → Buf (Elt F) ℓ) (ρ : Dev nD → PrngReg)

abbrev rowLoc (d : Dev nD) : Loc nD τ sig := (SparseCore.T d).loc main_arg1
abbrev colLoc (d : Dev nD) : Loc nD τ sig := (SparseCore.T d).loc main_arg2
abbrev valLoc (d : Dev nD) : Loc nD τ sig := (SparseCore.T d).loc main_arg3

/-- The launch contents, and the contents before the call. -/
def V0 (d : Dev nD) : Valuation τ sig (Elt F) := fun b => m (d, b)
def V1 (d : Dev nD) : Valuation τ sig (Elt F) := StableHlo.after ops (V0 m d)

abbrev words (d : Dev nD) : S270336.Idx → BitVec 32 := packed (F := F) (m (rowLoc d)) (m (colLoc d)) (m (valLoc d))

/-- What the proof asks of the launch memory: every packed word names a row of the tile's sums. -/
def PreOK : Prop := ∀ d, WordsOK (words m d)

variable {m}

def args (h : PreOK m) : Args F where
  x := fun d => m (xLoc d)
  p := words m
  ok := h
  o := fun d => m (oLoc d)

variable (m)

/-! ## @main on the TensorCore -/

abbrev x' : DevRef τ sig := Proc.devRef .tc (main_arg0 : Ref sig .tc)
abbrev r' : DevRef τ sig := Proc.devRef .tc (main_arg1 : Ref sig .tc)
abbrev c' : DevRef τ sig := Proc.devRef .tc (main_arg2 : Ref sig .tc)
abbrev v' : DevRef τ sig := Proc.devRef .tc (main_arg3 : Ref sig .tc)
abbrev p' : DevRef τ sig := Proc.devRef .tc (main_v10 : Ref sig .tc)
abbrev o' : DevRef τ sig := Proc.devRef .tc (main_v11 : Ref sig .tc)

/-- The arrays that the call and the claims speak of. -/
abbrev S6 : Finset (DevRef τ sig) := {x', r', c', v', p', o'}

theorem S6_sub : S6 ⊆ Pipeline.ucRefs τ sig := by decide

abbrev rowPts (d : Dev nD) : sProp 𝕄 := rowLoc d ↦{fullShare} m (rowLoc d)
abbrev colPts (d : Dev nD) : sProp 𝕄 := colLoc d ↦{fullShare} m (colLoc d)
abbrev valPts (d : Dev nD) : sProp 𝕄 := valLoc d ↦{fullShare} m (valLoc d)

theorem held_S6 (d : Dev nD) :
    (StableHlo.held (SparseCore.T d) S6 (V1 m d) : sProp 𝕄)
      = iprop((xLoc d ↦{fullShare} m (xLoc d)) ∗ rowPts m d ∗ colPts m d ∗ valPts m d
          ∗ (pLoc d ↦{fullShare} (words m d : Buf (Elt F) (pLoc d))) ∗ oLoc d ↦{fullShare} m (oLoc d)) := by
  unfold StableHlo.held S6
  rw [SparseCore.bigSep_insert' (by decide), SparseCore.bigSep_insert' (by decide), SparseCore.bigSep_insert' (by decide),
    SparseCore.bigSep_insert' (by decide), SparseCore.bigSep_insert' (by decide), bigSep_singleton]
  unfold V1
  rw [kept _ (show main_arg0 ∉ written by decide), kept _ (show main_arg1 ∉ written by decide), kept _ (show main_arg2 ∉ written by decide),
    kept _ (show main_arg3 ∉ written by decide), kept _ (show main_v11 ∉ written by decide), after_packed]
  rfl

/-- Both SparseCores hold between them the operands and the result, but for a remainder of the read shares. -/
theorem whole_cores (R : Args F) (d : Dev nD) (f : S256x4096.Idx → F .f32) :
    (iprop((xLoc d ↦{fullShare} (R.x d : Buf (Elt F) (xLoc d))) ∗ (pLoc d ↦{fullShare} (R.p d : Buf (Elt F) (pLoc d)))
        ∗ oLoc d ↦{fullShare} (f : Buf (Elt F) (oLoc d))) : sProp 𝕄)
      ⊣⊢ iprop(((xLoc d ↦{Transfers.shareDrop fullShare 2} (R.x d : Buf (Elt F) (xLoc d)))
          ∗ (pLoc d ↦{Transfers.shareDrop fullShare 2} (R.p d : Buf (Elt F) (pLoc d)))) ∗ bigSep Finset.univ fun c : Fin 2 => corePts R d c.val f) := by
  unfold corePts
  rw [bigSep_sep', bigSep_sep', out_cores d]
  constructor
  · iintro ⟨Hx, Hp, Ho⟩
    ihave Hx' := (Transfers.pointsTo_toks_split fullShare 2) $$ Hx
    ihave Hp' := (Transfers.pointsTo_toks_split fullShare 2) $$ Hp
    icases Hx' with ⟨Hx0, Hx⟩
    icases Hp' with ⟨Hp0, Hp⟩
    isplitl [Hx0 Hp0]
    · isplitl [Hx0] <;> iassumption
    isplitl [Hx]; · iexact Hx
    isplitl [Hp]; · iexact Hp
    iexact Ho
  · iintro ⟨⟨Hx0, Hp0⟩, Hx, Hp, Ho⟩
    isplitl [Hx0 Hx]
    · iapply (Transfers.pointsTo_toks_join fullShare 2)
      isplitl [Hx0] <;> iassumption
    isplitl [Hp0 Hp]
    · iapply (Transfers.pointsTo_toks_join fullShare 2)
      isplitl [Hp0] <;> iassumption
    iexact Ho

/-- What @main leaves: the arguments at their launch contents, the result at the call's. -/
abbrev FIN (h : PreOK m) (d : Dev nD) : sProp 𝕄 :=
  iprop((xLoc d ↦{fullShare} m (xLoc d)) ∗ rowPts m d ∗ colPts m d ∗ valPts m d
    ∗ oLoc d ↦{fullShare} ((args h).out d : Buf (Elt F) (oLoc d)))

theorem hmain (h : PreOK m) (κ : GSem nD τ sig → ℕ) (d : Dev nD) :
    iprop((K (F := F)).ctx EH (P (args h)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [main_eq, show (unscopedBufs d (fun b => m ((SparseCore.T d).loc b)) : sProp 𝕄) = StableHlo.held (SparseCore.T d) (Pipeline.ucRefs τ sig) (V0 m d)
    from Pipeline.unscopedBufs_held d (V0 m d)]
  iintro ⟨#Hctx, Hst, ⟨Hb, Hheld, Hts, -⟩, -⟩
  iapply (StableHlo.wp_seq 𝒱 none Set.univ d (Pipeline.ucRefs τ sig) _ (ops (F := F)) ops_sub ops_fresh (V0 m d)) $$ [Hb Hheld]
  · isplitl [Hb] <;> iassumption
  iintro ⟨Hb, Hheld⟩
  ihave Hh := (show (StableHlo.held (d.tc : Thread nD τ) (Pipeline.ucRefs τ sig) (StableHlo.after ops (V0 m d)) : sProp 𝕄)
      ⊢ iprop(StableHlo.held (SparseCore.T d) S6 (V1 m d) ∗ StableHlo.held (SparseCore.T d) (Pipeline.ucRefs τ sig \ S6) (V1 m d)) from
    Entails.of_eq (StableHlo.held_sub_split (SparseCore.T d) S6_sub (V1 m d))) $$ Hheld
  icases Hh with ⟨Hh, -⟩
  ihave Hh := (Entails.of_eq (held_S6 m d)) $$ Hh
  icases Hh with ⟨Hx, Hrow, Hcol, Hval, Hp, Ho⟩
  ihave Hc := (whole_cores (args h) d (m (oLoc d))).1 $$ [Hx Hp Ho]
  · isplitl [Hx]; · iexact Hx
    isplitl [Hp]; · iexact Hp
    iexact Ho
  icases Hc with ⟨H0, Hc⟩
  simp only [wp_bind, wp_pure]
  iapply ((K (F := F)).wp_run (D (F := F)) 𝒱 (EH := EH) (P := P (args h)) κ d 0) $$ [Hst Hc H0 Hrow Hcol Hval Hb Hts]
  isplitr; · iexact Hctx
  isplitl [Hst]; · iexact Hst
  isplitl [Hc]; · iexact Hc
  iintro ⟨Hst, Hdn⟩
  ihave Hw := (whole_cores (args h) d ((args h).out d)).2 $$ [H0 Hdn]
  · isplitl [H0]; · iexact H0
    iexact Hdn
  icases Hw with ⟨Hx, -, Ho⟩
  imodintro
  isplitl [Hst]; · iexact Hst
  isplitr [Hb Hts]
  · isplitl [Hx]; · iexact Hx
    isplitl [Hrow]; · iexact Hrow
    isplitl [Hcol]; · iexact Hcol
    isplitl [Hval]; · iexact Hval
    iexact Ho
  isplitl [Hb] <;> iassumption

/-! ## The launch element and the final memory -/

theorem no_resources {I : Type} (s : Finset I) : (bigSep s fun _ => iprop(emp)) = (iprop(emp) : sProp 𝕄) := bigSep_emp_const s

def u₀ : UU := (initOf (K (F := F)).hsCells (K (F := F)).hsToks, 1)

theorem hu₀ (R : Args F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P R).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_resources]; iempintro
  rw [show (bigSep Finset.univ fun thr : Thread nD τ => bigSep Finset.univ fun q : Fin 1 => (P R).x q thr) = bigSep Finset.univ fun _ => iprop(emp) from
    bigSep_congr fun _ _ => bigSep_univ_of_subsingleton (0 : Fin 1), no_resources]
  iempintro

/-- What the claims read of the final memory of device `d`. -/
def Final (h : PreOK m) (mem : (ℓ : Loc nD τ sig) → Buf (Elt F) ℓ) (d : Dev nD) : Prop :=
  mem (xLoc d) = m (xLoc d) ∧ mem (rowLoc d) = m (rowLoc d) ∧ mem (colLoc d) = m (colLoc d) ∧ mem (valLoc d) = m (valLoc d)
    ∧ mem (oLoc d) = ((args h).out d : Buf (Elt F) (oLoc d))

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%e, HSI, -⟩
  isplitr
  · ipureintro; exact funext fun i => e i (Finset.mem_univ i)
  · iexact HSI

theorem hfin (h : PreOK m) (d : Dev nD) (s' : Phys nD τ sig (Elt F)) : iprop(FIN m h d ∗ SI s') ⊢ (⌜Final m h s'.mem.mem d⌝ : sProp 𝕄) := by
  iintro ⟨⟨Hx, Hr, Hc, Hv, Ho⟩, HSI⟩
  ihave H := (agree s' (xLoc d) _) $$ [HSI Hx]
  · isplitl [HSI] <;> iassumption
  icases H with ⟨%hx, HSI⟩
  ihave H := (agree s' (rowLoc d) _) $$ [HSI Hr]
  · isplitl [HSI] <;> iassumption
  icases H with ⟨%hr, HSI⟩
  ihave H := (agree s' (colLoc d) _) $$ [HSI Hc]
  · isplitl [HSI] <;> iassumption
  icases H with ⟨%hc, HSI⟩
  ihave H := (agree s' (valLoc d) _) $$ [HSI Hv]
  · isplitl [HSI] <;> iassumption
  icases H with ⟨%hv, HSI⟩
  ihave H := (agree s' (oLoc d) _) $$ [HSI Ho]
  · isplitl [HSI] <;> iassumption
  icases H with ⟨%ho, HSI⟩
  ipureintro; exact ⟨hx, hr, hc, hv, ho⟩

/-- Every run of the program ends, with every counter at zero, the arguments as they were and the result at what the
    tiles' rows say. -/
theorem run_main [∀ e, Nonempty (Elt F e)] (h : PreOK m) :
    θ_run (Cert.KernelIdeal.defs (F := F)) (Cert.KernelIdeal.threads (F := F)) ⟨m, fun _ => 0, ρ⟩
      (fun r => (∀ d, Final m h r.2.mem d) ∧ r.2.sem = fun _ => 0) :=
  SparseCore.Cfg.θ_run_sc_quiescent (K := K (F := F)) (D := D (F := F)) (𝒱 := 𝒱) (EH := EH) (P := P (args h)) (A := ∅) facts v₀
    (fun q hq => match q with | 0 => nomatch hq)
    (fun q _ => match q with | 0 => tileObl (args h) facts)
    (fun q _ => match q with | 0 => SparseCore.Cfg.VecSplit.of_plain (vecSplit (args h)))
    m ρ main (fun _ => iprop(emp)) (FIN m h) (u₀ (F := F)) (sep_elim_left.trans (hu₀ (args h))) (hmain m ρ h)
    (fun d s' => Final m h s'.mem.mem d) (hfin m h) _ (fun _ h hz => ⟨h, hz⟩)

end Cert.Proof.Run

end
-- ==== Proof.Words.lean ====
/-
  The packed words, taken apart: which row of sums and which column of `X` each one names, and what the two
  preconditions say of the arguments.
-/
module

public import proofs.«01_k».proof.Proof.Run
public import proofs.«01_k».proof.Proof.Gen.Pre_in_range
public import proofs.«01_k».proof.Proof.Gen.Pre_projection
public import Idealize.ShloMosaic.Lib.ReduceAll
public import Idealize.ShloMosaic.Lib.Affine

@[expose] public section

noncomputable section

namespace Cert.Proof.Words

open Cert.KernelIdeal Cert.KernelIdeal.Gen Cert.Proof.Vals Cert.Proof.Run
open Idealize.ShloMosaic Idealize.SL.Sem

variable {F : FTy → Type} [FloatOps F]

/-! ## One word -/

theorem pack_toNat (c r : BitVec 32) (hc : c.toNat < 65536) (hr : r.toNat < 8192) : (c ||| r <<< (16#32)).toNat = r.toNat * 65536 + c.toNat := by
  rw [BitVec.toNat_or, BitVec.shiftLeft_eq', BitVec.toNat_shiftLeft, Nat.or_comm]
  have e : r.toNat <<< (16#32).toNat % 2 ^ 32 = r.toNat <<< 16 := by
    rw [show (16#32 : BitVec 32).toNat = 16 from rfl, Nat.shiftLeft_eq]
    omega
  rw [e, ← Nat.shiftLeft_add_eq_or_of_lt (show c.toNat < 2 ^ 16 from hc), Nat.shiftLeft_eq]

theorem high_toNat (w : BitVec 32) (h : w.toNat < 2147483648) : (IntOp.shrsi .vector w 16#32).toNat = w.toNat / 65536 := by
  rw [IntOp.shrsi, if_pos (by decide), BitVec.sshiftRight_eq', show (16#32 : BitVec 32).toNat = 16 from rfl,
    BitVec.sshiftRight_eq_of_msb_false (by rw [BitVec.msb_eq_decide]; simp only [decide_eq_false_iff_not]; omega),
    BitVec.toNat_ushiftRight, Nat.shiftRight_eq_div_pow]

theorem low_toNat (w : BitVec 32) : (IntOp.andi w 65535#32).toNat = w.toNat % 65536 := by
  show (w &&& 65535#32).toNat = _
  rw [BitVec.toNat_and, show (65535#32 : BitVec 32).toNat = 2 ^ 16 - 1 from rfl, Nat.and_two_pow_sub_one_eq_mod]

/-! ## The packed array -/

/-- 1 where the value is negative, as a word. -/
def sgn (vals : S268435.Idx → F .f32) (i : S268435.Idx) : BitVec 1 :=
  FloatOps.cmpf .olt (vals i) (Scalar.ofBits .f32 0x00000000#32)

/-- The rows and the columns lie in the result and in `X`. -/
def InRange (row col : S268435.Idx → BitVec 32) : Prop := ∀ i, (row i).toNat < 4096 ∧ (col i).toNat < 65536

theorem packed_entry (row col : S268435.Idx → BitVec 32) (vals : S268435.Idx → F .f32) (k : ℕ) (hk : k < 268435) (h' : k < 270336) :
    packed (F := F) row col vals (ix1 ⟨k, h'⟩)
      = col (ix1 ⟨k, hk⟩) ||| (row (ix1 ⟨k, hk⟩) + 4096#32 * (sgn vals (ix1 ⟨k, hk⟩)).setWidth 32) <<< (16#32) := by
  unfold packed
  exact (concatenate_pair_apply_left (t := S270336) (s₁ := S268435) (s₂ := S1901) (0 : Fin 1) _ _ concatenates_S268435_S1901_S270336_d0
    (ix1 ⟨k, h'⟩ : S270336.Idx) rfl (ix1 ⟨k, hk⟩ : S268435.Idx) (fun b => by match b with | 0 => rfl)).trans rfl

theorem packed_pad (row col : S268435.Idx → BitVec 32) (vals : S268435.Idx → F .f32) (k : ℕ) (hk : 268435 ≤ k) (h' : k < 270336) :
    packed (F := F) row col vals (ix1 ⟨k, h'⟩) = 536870912#32 := by
  unfold packed
  exact (concatenate_pair_apply_right (t := S270336) (s₁ := S268435) (s₂ := S1901) (0 : Fin 1) _ _ concatenates_S268435_S1901_S270336_d0
    (ix1 ⟨k, h'⟩ : S270336.Idx) rfl rfl (ix1 ⟨k - 268435, by omega⟩ : S1901.Idx)
    (fun b hb => by match b with | 0 => exact absurd rfl hb)
    (by show k - 268435 + 268435 = k; omega)).trans rfl

theorem lift_toNat (b : BitVec 1) (r : BitVec 32) (hr : r.toNat < 4096) : (r + 4096#32 * b.setWidth 32).toNat = r.toNat + 4096 * b.toNat := by
  have hb : b.toNat < 2 := b.isLt
  rw [BitVec.toNat_add, BitVec.toNat_mul, BitVec.toNat_setWidth, show (4096#32 : BitVec 32).toNat = 4096 from rfl]
  omega

/-- The row of sums that an entry's word names, and the column. -/
theorem entry_row {row col : S268435.Idx → BitVec 32} (h : InRange row col) (vals : S268435.Idx → F .f32) (k : ℕ) (hk : k < 268435) (h' : k < 270336) :
    (IntOp.shrsi .vector (packed (F := F) row col vals (ix1 ⟨k, h'⟩)) 16#32).toNat = (row (ix1 ⟨k, hk⟩)).toNat + 4096 * (sgn vals (ix1 ⟨k, hk⟩)).toNat
      ∧ (IntOp.andi (packed (F := F) row col vals (ix1 ⟨k, h'⟩)) 65535#32).toNat = (col (ix1 ⟨k, hk⟩)).toNat := by
  obtain ⟨hr, hc⟩ := h (ix1 ⟨k, hk⟩)
  have hl := lift_toNat (sgn vals (ix1 ⟨k, hk⟩)) _ hr
  have hb : (sgn vals (ix1 ⟨k, hk⟩)).toNat < 2 := (sgn vals (ix1 ⟨k, hk⟩)).isLt
  have e := pack_toNat _ _ hc (show (row (ix1 ⟨k, hk⟩) + 4096#32 * (sgn vals (ix1 ⟨k, hk⟩)).setWidth 32).toNat < 8192 by rw [hl]; omega)
  rw [packed_entry row col vals k hk h', low_toNat, high_toNat _ (by rw [e]; omega), e]
  omega

/-- With rows and columns in range every packed word names a row of the sums. -/
theorem wordsOK {row col : S268435.Idx → BitVec 32} (h : InRange row col) (vals : S268435.Idx → F .f32) : WordsOK (packed (F := F) row col vals) := by
  intro j
  obtain ⟨⟨k, h'⟩, rfl⟩ : ∃ k, j = ix1 k := ⟨j 0, by funext a; match a with | 0 => rfl⟩
  by_cases hk : k < 268435
  · rw [(entry_row h vals k hk h').1]
    have := (h (ix1 ⟨k, hk⟩)).1
    have hb : (sgn vals (ix1 ⟨k, hk⟩)).toNat < 2 := (sgn vals (ix1 ⟨k, hk⟩)).isLt
    omega
  · rw [packed_pad row col vals k (not_lt.1 hk) h']; decide

/-! ## The preconditions -/

theorem between {v : BitVec 32} {n : ℕ} (hn : n < 2147483648) (h : IntOp.andi (IntOp.cmpi .sge v 0#32) (IntOp.cmpi .slt v (BitVec.ofNat 32 n)) = 1#1) :
    v.toNat < n := by
  obtain ⟨h0, h1⟩ := IntOp.andi_eq_one.1 h
  rw [IntOp.cmpi_sge] at h0
  rw [IntOp.cmpi_slt] at h1
  simp only [BitVec.toInt_eq_toNat_cond, BitVec.toNat_ofNat, Nat.reducePow, Nat.zero_mod] at h0 h1
  rw [Nat.mod_eq_of_lt (by omega)] at h1
  split at h0 <;> split at h1 <;> omega

instance : Subsingleton (⟨0, ![]⟩ : Shape).Idx := ⟨fun _ _ => funext fun a => a.elim0⟩

/-- The first precondition says that the rows and the columns are in range. -/
theorem range_of (X : S256x65536.Idx → F .f32) (row col : S268435.Idx → BitVec 32) (vals : S268435.Idx → F .f32)
    (h : Cert.Pre_in_range.fn (F := F) X row col vals = fun _ => 1#1) : InRange row col := by
  have e := congrFun h (fun a => a.elim0)
  obtain ⟨er, ec⟩ := IntOp.andi_eq_one.1 e
  exact fun i => ⟨between (by decide) (Host.reduce_andi_all _ _ _ _ _ er i), between (by decide) (Host.reduce_andi_all _ _ _ _ _ ec i)⟩

/-- Every value is the scale or its negation, as the comparisons have it. -/
def Signed (vals : S268435.Idx → F .f32) : Prop := ∀ i,
  FloatOps.cmpf .oeq (vals i) (Scalar.ofBits .f32 0x3EFCFB72#32) = 1#1
    ∨ FloatOps.cmpf .oeq (vals i) (FloatOps.hostNegf (Scalar.ofBits .f32 0x3EFCFB72#32)) = 1#1

/-- Every element of `X` is finite, as the comparison has it. -/
def Bounded (X : S256x65536.Idx → F .f32) : Prop := ∀ i, FloatOps.cmpf .olt (FloatOps.hostAbsf (X i)) (Scalar.ofBits .f32 0x7F800000#32) = 1#1

/-- The second precondition says that the rows and the columns are in range, the values signed scales, `X` finite. -/
theorem projection_of (X : S256x65536.Idx → F .f32) (row col : S268435.Idx → BitVec 32) (vals : S268435.Idx → F .f32)
    (h : Cert.Pre_projection.fn (F := F) X row col vals = fun _ => 1#1) : InRange row col ∧ Signed vals ∧ Bounded X := by
  have e := congrFun h (fun a => a.elim0)
  obtain ⟨e, ex⟩ := IntOp.andi_eq_one.1 e
  obtain ⟨e, ev⟩ := IntOp.andi_eq_one.1 e
  obtain ⟨er, ec⟩ := IntOp.andi_eq_one.1 e
  exact ⟨fun i => ⟨between (by decide) (Host.reduce_andi_all _ _ _ _ _ er i), between (by decide) (Host.reduce_andi_all _ _ _ _ _ ec i)⟩,
    fun i => IntOp.ori_eq_one.1 (Host.reduce_andi_all _ _ _ _ _ ev i), fun i => Host.reduce_andi_all _ _ _ _ _ ex i⟩

end Cert.Proof.Words

end
-- ==== Proof.Frames.lean ====
/-
  The frames: the kernel's and its idealisation's from the one run of `Run.lean`, the reference's from its generated run.
-/
module

public import proofs.«01_k».proof.Proof.Words
public import proofs.«01_k».proof.Proof.Gen.Kernel
public import proofs.«01_k».proof.Proof.Gen.ReferenceIdeal.Run

@[expose] public section

noncomputable section

namespace Cert.Proof.Frames

open Cert.Proof.Words Cert.Proof.Run
open Idealize.ShloMosaic Idealize.SL.Sem

/-- The idealised kernel's memory satisfies the run's condition. -/
theorem ok_range (m : (ℓ : Loc Cert.KernelIdeal.nD Cert.KernelIdeal.τ Cert.KernelIdeal.sig) → Buf (Elt Ideal) ℓ) (h : Cert.Pre_KernelIdeal m) :
    PreOK m := fun d => wordsOK (range_of _ _ _ _ (h d)) _
theorem ok_projection (m : (ℓ : Loc Cert.KernelIdeal.nD Cert.KernelIdeal.τ Cert.KernelIdeal.sig) → Buf (Elt Ideal) ℓ)
    (h : Cert.Pre_KernelIdeal_projection m) : PreOK m := fun d => wordsOK (projection_of _ _ _ _ (h d)).1 _

/-- The kernel's frame at the machine's words. -/
theorem frame_kernel : Cert.quiescent_Kernel := fun m ρ h =>
  (θ_run Cert.KernelIdeal.defs _ _).mono (fun _ q => ⟨fun c => ⟨(q.1 c).1, (q.1 c).2.1, (q.1 c).2.2.1, (q.1 c).2.2.2.1⟩, q.2⟩)
    (run_main (F := Bits) m ρ fun d => wordsOK (range_of (F := Bits) _ _ _ _ (h d)) _)

/-- The idealised kernel's frame, from a memory that satisfies the run's condition. -/
theorem frame_of (m : (ℓ : Loc Cert.KernelIdeal.nD Cert.KernelIdeal.τ Cert.KernelIdeal.sig) → Buf (Elt Ideal) ℓ) (ρ : Dev Cert.KernelIdeal.nD → PrngReg)
    (h : PreOK m) : θ_run (Cert.KernelIdeal.defs (F := Ideal)) (Cert.KernelIdeal.threads (F := Ideal)) ⟨m, fun _ => 0, ρ⟩
      fun r => (∀ c, r.2.mem (Cert.Proof.Launch.xLoc c) = m (Cert.Proof.Launch.xLoc c) ∧ r.2.mem (rowLoc c) = m (rowLoc c)
        ∧ r.2.mem (colLoc c) = m (colLoc c) ∧ r.2.mem (valLoc c) = m (valLoc c)) ∧ r.2.sem = fun _ => 0 :=
  (θ_run Cert.KernelIdeal.defs _ _).mono (fun _ q => ⟨fun c => ⟨(q.1 c).1, (q.1 c).2.1, (q.1 c).2.2.1, (q.1 c).2.2.2.1⟩, q.2⟩) (run_main m ρ h)

theorem frame_ideal : Cert.quiescent_KernelIdeal := fun m ρ h => frame_of m ρ (ok_range m h)
theorem frame_ideal_projection : Cert.quiescent_KernelIdeal_pre_projection := fun m ρ h => frame_of m ρ (ok_projection m h)

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_projection : Cert.quiescent_ReferenceIdeal_pre_projection := fun m ρ _ => frame_reference m ρ trivial

end Cert.Proof.Frames

end
-- ==== Proof.Sums.lean ====
/-
  The kernel's result at the exact values: what the sums hold at one place is a plain sum over the packed words, so a
  result element is the sum of the projected entries of its row.
-/
module

public import proofs.«01_k».proof.Proof.Words
public import Idealize.ShloMosaic.PureOps.Ideal.Laws

@[expose] public section

noncomputable section

namespace Cert.Proof.Sums

open Cert.KernelIdeal Cert.KernelIdeal.Gen Cert.Proof.Vals Cert.Proof.Words Cert.Proof.Run
open Idealize.ShloMosaic Idealize.SL.Sem
open scoped BigOperators

/-! ## One group of words -/

/-- A left fold of steps each of which adds its own amount at one place adds them all there. -/
theorem foldl_at {ι α : Type} {step : (α → EReal) → ι → α → EReal} {j : α} {c : ι → EReal} (h : ∀ g k, step g k j = g j + c k) :
    ∀ (l : List ι) (f : α → EReal), l.foldl step f j = f j + (l.map c).sum
  | [], f => by simp
  | k :: l, f => by rw [List.foldl_cons, foldl_at h l, h, List.map_cons, List.sum_cons, add_assoc]

/-- The adding store read at one place: the old element and the elements of the lanes that name the place. -/
theorem store_at (f : S8208.Idx → Ideal .f32) (q : IVec S16 32) (v : S16.Idx → Ideal .f32)
    (h : ∀ a x, ((![q] : Fin S8208.rank → IVec S16 32) a x).toNat < S8208.size a) (r : S8208.Idx) :
    storeIdx (F := Ideal) (s := S8208) (e := .f32) f ![q] v (fun _ => 1#1) true h r
      = (f r + ∑ k : Fin 16, if (q (ix1 k)).toNat = (r 0).val then v (ix1 k) else 0 : EReal) := by
  rw [Fin.sum_univ_def]
  unfold storeIdx
  refine foldl_at (j := r) (c := fun k : Fin 16 => if (q (ix1 k)).toNat = (r 0).val then v (ix1 k) else (0 : EReal)) (fun g k => ?_) (List.finRange 16) f
  have ek : (Shape.ofLane (d := ![16]) k : S16.Idx) = ix1 k := funext fun a => by match a with | ⟨0, _⟩ => rfl
  simp only [ek]
  refine (congrFun (if_pos rfl) r).trans ?_
  simp only [if_true]
  by_cases e : (q (ix1 k)).toNat = (r 0).val
  · have ei : idxAt (s := S8208) ![q] h (ix1 k) = r := funext fun a => by
      match a with | ⟨0, _⟩ => exact Fin.ext e
    rw [if_pos e, if_pos (fun a => by rw [ei]), ei]
    rfl
  · rw [if_neg e, if_neg (fun c => e (c 0).symm), add_zero]

/-- What word `k` adds at place `r` of the sums of the row `x`. -/
def term (p : S270336.Idx → BitVec 32) (x : S65536.Idx → Ideal .f32) (r k : ℕ) : EReal :=
  if (IntOp.shrsi .vector (word p k) 16#32).toNat = r then x (ix1 ⟨(IntOp.andi (word p k) 65535#32).toNat, word_col _⟩) else 0

/-- The sums after `t` groups, at one place: what the first `16 t` words add there. -/
theorem acc_at {p : S270336.Idx → BitVec 32} (hp : WordsOK p) (x : S65536.Idx → Ideal .f32) (r : S8208.Idx) :
    ∀ t, acc (F := Ideal) hp x t r = ∑ k ∈ Finset.range (16 * t), term p x (r 0).val k
  | 0 => by
    show Ideal.ofBits .f32 0x00000000#32 = _
    rw [Ideal.ofBits_zero_f32]; rfl
  | t + 1 => by
    rw [acc, store_at, acc_at hp x r t, Nat.mul_succ, Finset.sum_range_add, Finset.sum_range (fun k => term p x (r 0).val (16 * t + k))]
    refine congrArg _ (Finset.sum_congr rfl fun k _ => ?_)
    have e4 : k0_pay4 (F := Ideal) (lanes (F := Ideal) p t) (ix1 k) = IntOp.shrsi .vector (word p (16 * t + k.val)) 16#32 := pay4_apply _ _
    have e3 : k0_pay3 (F := Ideal) (lanes (F := Ideal) p t) (ix1 k) = IntOp.andi (word p (16 * t + k.val)) 65535#32 := pay3_apply _ _
    unfold term
    rw [e4]
    refine if_congr Iff.rfl ?_ rfl
    unfold loadIdx
    refine congrArg x (funext fun a => ?_)
    match a with
    | ⟨0, _⟩ => exact Fin.ext (show (k0_pay3 (F := Ideal) (lanes (F := Ideal) p t) (ix1 k)).toNat = (IntOp.andi (word p (16 * t + k.val)) 65535#32).toNat by rw [e3])

/-! ## All the words -/

/-- Column `k`'s place in a row of `X`, for an index word in range. -/
def colAt {col : S268435.Idx → BitVec 32} (hc : ∀ i, (col i).toNat < 65536) (i : Fin 268435) : S65536.Idx := ix1 ⟨(col (ix1 i)).toNat, hc _⟩

/-- The sums at the end, at a place below the padding's: over the entries, those whose packed row is the place. -/
theorem acc_end {row col : S268435.Idx → BitVec 32} (h : InRange row col) (vals : S268435.Idx → Ideal .f32) (x : S65536.Idx → Ideal .f32)
    (r : S8208.Idx) (hr : (r 0).val < 8192) :
    acc (F := Ideal) (wordsOK h vals) x 16896 r
      = ∑ i : Fin 268435, if (row (ix1 i)).toNat + 4096 * (sgn vals (ix1 i)).toNat = (r 0).val then x (colAt (fun i => (h i).2) i) else (0 : EReal) := by
  rw [acc_at, show 16 * 16896 = 268435 + 1901 from rfl, Finset.sum_range_add,
    Finset.sum_eq_zero (s := Finset.range 1901), add_zero, Finset.sum_range]
  · refine Finset.sum_congr rfl fun i _ => ?_
    have h' : i.val < 270336 := by have := i.isLt; omega
    obtain ⟨e1, e2⟩ := entry_row h vals i.val i.isLt h'
    have ew : word (packed (F := Ideal) row col vals) i.val = packed (F := Ideal) row col vals (ix1 ⟨i.val, h'⟩) := dif_pos h'
    unfold term
    simp only [ew]
    rw [e1]
    refine if_congr Iff.rfl (congrArg x (funext fun a => ?_)) rfl
    match a with
    | ⟨0, _⟩ => exact Fin.ext e2
  · intro k hk
    have hk := Finset.mem_range.1 hk
    have h' : 268435 + k < 270336 := by omega
    have ew : word (packed (F := Ideal) row col vals) (268435 + k) = packed (F := Ideal) row col vals (ix1 ⟨268435 + k, h'⟩) := dif_pos h'
    have ep : (IntOp.shrsi .vector (536870912#32) 16#32).toNat = 8192 := by decide
    refine if_neg ?_
    rw [ew, packed_pad row col vals (268435 + k) (by omega) h', ep]
    omega

/-! ## The preconditions at the exact values -/

/-- The scale's pattern is a positive real number. -/
theorem scale_real : ∃ s : ℝ, 0 < s ∧ Ideal.ofBits .f32 0x3EFCFB72#32 = (s : EReal) := by
  refine ⟨(2 ^ 23 + 8190834 : ℕ) * (2 : ℝ) ^ (-25 : ℤ), by positivity, ?_⟩
  simp [Ideal.ofBits, Ideal.ieee, -EReal.coe_mul]

/-- The bound's pattern is infinity. -/
theorem bound_top : Ideal.ofBits .f32 0x7F800000#32 = ⊤ := by simp [Ideal.ofBits, Ideal.ieee]

/-- A bounded element is a real number. -/
theorem real_of_bounded {X : S256x65536.Idx → Ideal .f32} (h : Bounded (F := Ideal) X) (i : S256x65536.Idx) : ∃ y : ℝ, X i = (y : EReal) := by
  have e : Ideal.cmp .olt (max (X i) (-(X i))) (Ideal.ofBits .f32 0x7F800000#32) = 1 := h i
  rw [bound_top, Ideal.cmp_olt_eq_one] at e
  have h1 : X i ≠ ⊤ := fun c => by rw [c] at e; simp at e
  have h2 : X i ≠ ⊥ := fun c => by rw [c] at e; simp at e
  exact ⟨(X i).toReal, (EReal.coe_toReal h1 h2).symm⟩

/-- A signed scale is the scale or its negation, as the sign has it. -/
theorem signed_real {vals : S268435.Idx → Ideal .f32} (h : Signed (F := Ideal) vals) {s : ℝ} (hs : 0 < s)
    (e : Ideal.ofBits .f32 0x3EFCFB72#32 = (s : EReal)) (i : S268435.Idx) :
    (sgn (F := Ideal) vals i = 0#1 ∧ vals i = (s : EReal)) ∨ (sgn (F := Ideal) vals i = 1#1 ∧ vals i = ((-s : ℝ) : EReal)) := by
  have es : sgn (F := Ideal) vals i = BitVec.ofBool (decide (vals i < 0)) := by
    show Ideal.cmp .olt (vals i) (Ideal.ofBits .f32 0x00000000#32) = _
    rw [Ideal.ofBits_zero_f32]; rfl
  rcases h i with q | q
  · have q : Ideal.cmp .oeq (vals i) (Ideal.ofBits .f32 0x3EFCFB72#32) = 1 := q
    rw [e, Ideal.cmp_oeq_eq_one] at q
    refine .inl ⟨?_, q⟩
    rw [es, q, decide_eq_false (by exact_mod_cast not_lt.2 hs.le)]; rfl
  · have q : Ideal.cmp .oeq (vals i) (-(Ideal.ofBits .f32 0x3EFCFB72#32)) = 1 := q
    rw [e, Ideal.cmp_oeq_eq_one, ← EReal.coe_neg] at q
    refine .inr ⟨?_, q⟩
    rw [es, q, decide_eq_true (by exact_mod_cast neg_lt_zero.2 hs)]; rfl

/-! ## The result -/

theorem coe_total {n : ℕ} (f : Fin n → ℝ) : ((∑ i, f i : ℝ) : EReal) = ∑ i, (f i : EReal) :=
  map_sum (⟨⟨fun y : ℝ => (y : EReal), EReal.coe_zero⟩, EReal.coe_add⟩ : ℝ →+ EReal) f Finset.univ

theorem coe_choice (P : Prop) [Decidable P] (y : ℝ) : (if P then (y : EReal) else 0) = ((if P then y else 0 : ℝ) : EReal) := by
  split <;> rfl

/-- Over the reals: positive entries less negative ones, scaled, are the entries times their signed scales. -/
theorem split_real {n : ℕ} (R B : Fin n → ℕ) (x v : Fin n → ℝ) (s : ℝ) (r : ℕ) (hr : r < 4096) (hR : ∀ i, R i < 4096)
    (hv : ∀ i, (B i = 0 ∧ v i = s) ∨ (B i = 1 ∧ v i = -s)) :
    ((∑ i, if R i + 4096 * B i = r then x i else 0) - ∑ i, if R i + 4096 * B i = 4096 + r then x i else 0) * s
      = ∑ i, if R i = r then x i * v i else 0 := by
  rw [← Finset.sum_sub_distrib, Finset.sum_mul]
  refine Finset.sum_congr rfl fun i _ => ?_
  have := hR i
  rcases hv i with ⟨b, w⟩ | ⟨b, w⟩
  · rw [b, w, if_neg (show ¬R i + 4096 * 0 = 4096 + r by omega), sub_zero, ite_mul, zero_mul]
    exact if_congr (by omega) rfl rfl
  · rw [b, w, if_neg (show ¬R i + 4096 * 1 = r by omega), zero_sub, neg_mul, ite_mul, zero_mul]
    by_cases e : R i = r
    · rw [if_pos e, if_pos (by omega), mul_neg]
    · rw [if_neg e, if_neg (by omega), neg_zero]

/-- The projected entry of a row: the row's element at column `col i` times value `i`, summed over the entries `i` of
    row `r`. -/
def project (X : S256x65536.Idx → EReal) (row : S268435.Idx → BitVec 32) {col : S268435.Idx → BitVec 32} (hc : ∀ i, (col i).toNat < 65536)
    (vals : S268435.Idx → EReal) (b : Fin 256) (r : ℕ) : EReal :=
  ∑ i : Fin 268435, if (row (ix1 i)).toNat = r then X (ix2 b ⟨(col (ix1 i)).toNat, hc _⟩) * vals (ix1 i) else 0

/-- The kernel's result is the projection. -/
theorem outAll_eq {row col : S268435.Idx → BitVec 32} (h : InRange row col) {vals : S268435.Idx → Ideal .f32} (hv : Signed (F := Ideal) vals)
    {X : S256x65536.Idx → Ideal .f32} (hX : Bounded (F := Ideal) X) (b : Fin 256) (r : Fin 4096) :
    outAll (F := Ideal) (wordsOK h vals) X (ix2 b r) = project X row (fun i => (h i).2) vals b r.val := by
  obtain ⟨s, hs, es⟩ := scale_real
  choose Y hY using real_of_bounded hX
  have hr := r.isLt
  have hb : ∀ i, (sgn (F := Ideal) vals (ix1 i)).toNat = 0 ∧ vals (ix1 i) = (s : EReal)
      ∨ (sgn (F := Ideal) vals (ix1 i)).toNat = 1 ∧ vals (ix1 i) = ((-s : ℝ) : EReal) := fun i => by
    rcases signed_real hv hs es (ix1 i) with ⟨a, c⟩ | ⟨a, c⟩
    · exact .inl ⟨by rw [a]; rfl, c⟩
    · exact .inr ⟨by rw [a]; rfl, c⟩
  choose V hV using fun i => (show ∃ v : ℝ, vals (ix1 i) = (v : EReal) ∧
      ((sgn (F := Ideal) vals (ix1 i)).toNat = 0 ∧ v = s ∨ (sgn (F := Ideal) vals (ix1 i)).toNat = 1 ∧ v = -s) from by
    rcases hb i with ⟨a, c⟩ | ⟨a, c⟩
    · exact ⟨s, c, .inl ⟨a, rfl⟩⟩
    · exact ⟨-s, c, .inr ⟨a, rfl⟩⟩)
  have key := split_real (fun i => (row (ix1 i)).toNat) (fun i => (sgn (F := Ideal) vals (ix1 i)).toNat)
    (fun i => Y (ix2 b ⟨(col (ix1 i)).toNat, (h _).2⟩)) V s r.val hr (fun i => (h _).1) (fun i => (hV i).2)
  show (acc (F := Ideal) (wordsOK h vals) (rowOf X b) 16896 (ix1 ⟨r.val, by omega⟩)
      - acc (F := Ideal) (wordsOK h vals) (rowOf X b) 16896 (ix1 ⟨4096 + r.val, by omega⟩)) * Ideal.ofBits .f32 0x3EFCFB72#32 = _
  rw [acc_end h vals _ _ (show r.val < 8192 by omega), acc_end h vals _ _ (show 4096 + r.val < 8192 by omega), es]
  unfold project
  simp only [rowOf, colAt, hY, fun i => (hV i).1, ← EReal.coe_mul, coe_choice, ← coe_total, ← EReal.coe_sub]
  exact congrArg (fun y : ℝ => (y : EReal)) key

end Cert.Proof.Sums

end
-- ==== Proof.RefVal.lean ====
/-
  The reference's result at an index, over the exact values: the gather reads the column named, the mask is true where
  the columns are in range, and the scatter-add leaves at each row the sum of that row's entries.
-/
module

public import proofs.«01_k».proof.Proof.Sums
public import proofs.«01_k».proof.Proof.Gen.ReferenceIdeal.Run
public import Idealize.ShloMosaic.Lib.Routing.OpsPair
public import Idealize.ShloMosaic.Lib.Routing.Ops
public import Idealize.ShloMosaic.Lib.ValueLayout

@[expose] public section

noncomputable section

namespace Cert.Proof.RefVal

open Cert.ReferenceIdeal Cert.ReferenceIdeal.Gen
open Idealize.ShloMosaic Idealize.SL.Sem
open scoped BigOperators

/-! ## The gather and the scatter -/

theorem toInt_small {v : BitVec 32} {n : ℕ} (hn : n ≤ 65536) (h : v.toNat < n) : v.toInt = (v.toNat : ℤ) := by
  rw [BitVec.toInt_eq_toNat_cond, if_pos (by omega)]

/-- The gather along the columns, read at row `b` and entry `k`: the column that the entry's index word names. -/
theorem gather_at {α : Type} (x : S256x65536.Idx → α) (idx : IVec S268435x1 32) (b : Fin 256) (k : Fin 268435)
    (h : (idx (ix2 k (0 : Fin 1))).toNat < 65536) :
    Host.gather gather_S256x65536_S268435x1_S256x268435_0_1_n_n_1_1_2561 x idx (ix2 b k) = x (ix2 b ⟨(idx (ix2 k (0 : Fin 1))).toNat, h⟩) := by
  unfold Host.gather
  refine congrArg x (funext fun a => Fin.ext ?_)
  have hb : ∀ a', a' ∉ (gather_S256x65536_S268435x1_S256x268435_0_1_n_n_1_1_2561).operandBatchingDims := fun _ => List.not_mem_nil
  match a with
  | ⟨0, _⟩ =>
    have hk : (0 : Fin 2) ∈ (gather_S256x65536_S268435x1_S256x268435_0_1_n_n_1_1_2561).sKept :=
      (GatherDims.mem_sKept _ _).2 ⟨by decide, hb 0⟩
    have hm : (0 : Fin 2) ∉ (gather_S256x65536_S268435x1_S256x268435_0_1_n_n_1_1_2561).startIndexMap := by decide
    show GatherDims.start _ (ix2 b k) idx 0 + GatherDims.batchCoord _ (ix2 b k) 0 + GatherDims.offCoord _ (ix2 b k) 0 = b.val
    rw [GatherDims.batchCoord_eq_zero _ _ _ (hb 0), Nat.add_zero]
    unfold GatherDims.start GatherDims.offCoord
    rw [dif_neg hm, dif_pos hk, Nat.zero_add]
    rfl
  | ⟨1, _⟩ =>
    have hk : (1 : Fin 2) ∉ (gather_S256x65536_S268435x1_S256x268435_0_1_n_n_1_1_2561).sKept :=
      fun c => ((GatherDims.mem_sKept _ _).1 c).1 (by decide)
    have hm : (1 : Fin 2) ∈ (gather_S256x65536_S268435x1_S256x268435_0_1_n_n_1_1_2561).startIndexMap := by decide
    show GatherDims.start _ (ix2 b k) idx 1 + GatherDims.batchCoord _ (ix2 b k) 1 + GatherDims.offCoord _ (ix2 b k) 1 = (idx (ix2 k (0 : Fin 1))).toNat
    rw [GatherDims.batchCoord_eq_zero _ _ _ (hb 1), GatherDims.offCoord_eq_zero _ _ _ hk, Nat.add_zero]
    unfold GatherDims.start
    rw [dif_pos hm]
    have hsi : GatherDims.siIdx (gather_S256x65536_S268435x1_S256x268435_0_1_n_n_1_1_2561) (ix2 b k) ⟨List.idxOf (1 : Fin 2) [1], List.idxOf_lt_length_iff.2 hm⟩
        = ix2 k (0 : Fin 1) := by
      funext a'; refine Fin.ext ?_
      match a' with
      | ⟨0, _⟩ => rfl
      | ⟨1, _⟩ => rfl
    refine (congrArg (fun q => min (idx q).toInt.toNat _) hsi).trans ?_
    rw [toInt_small le_rfl h, Int.toNat_natCast]
    exact min_eq_left (show _ ≤ 65536 - 1 by omega)

/-- The update at entry `k` and row `c` lands at `(r, b)` just when the entry's index word is `r` and `c` is `b`. -/
theorem lands (idx : IVec S268435x1 32) (k : Fin 268435) (c b : Fin 256) (r : Fin 4096) (h : (idx (ix2 k (0 : Fin 1))).toNat < 4096) :
    (scatter_S4096x256_S268435x1_S268435x256_1_0_0_1).resultIdx? (ix2 k c) idx = some (ix2 r b)
      ↔ (idx (ix2 k (0 : Fin 1))).toNat = r.val ∧ c = b := by
  have hm : (0 : Fin 2) ∈ (scatter_S4096x256_S268435x1_S268435x256_1_0_0_1).scatterDimsToOperandDims := by decide
  have hn : (1 : Fin 2) ∉ (scatter_S4096x256_S268435x1_S268435x256_1_0_0_1).scatterDimsToOperandDims := by decide
  have hsi : ScatterDims.siIdx (scatter_S4096x256_S268435x1_S268435x256_1_0_0_1) (ix2 k c) ⟨List.idxOf (0 : Fin 2) [0], List.idxOf_lt_length_iff.2 hm⟩
      = ix2 k (0 : Fin 1) := by
    funext a'; refine Fin.ext ?_
    match a' with
    | ⟨0, _⟩ => rfl
    | ⟨1, _⟩ => rfl
  have s0 : ScatterDims.start (scatter_S4096x256_S268435x1_S268435x256_1_0_0_1) (ix2 k c) idx 0 = ((idx (ix2 k (0 : Fin 1))).toNat : ℤ) := by
    unfold ScatterDims.start
    rw [dif_pos hm]
    exact (congrArg (fun q => (idx q).toInt) hsi).trans (toInt_small (by decide) h)
  have s1 : ScatterDims.start (scatter_S4096x256_S268435x1_S268435x256_1_0_0_1) (ix2 k c) idx 1 = 0 := dif_neg hn
  have w0 : ScatterDims.window (scatter_S4096x256_S268435x1_S268435x256_1_0_0_1) (ix2 k c) 0 = 0 := rfl
  have w1 : ScatterDims.window (scatter_S4096x256_S268435x1_S268435x256_1_0_0_1) (ix2 k c) 1 = c.val := rfl
  refine (Routing.resultIdx?_ix2 _ _ _ _ _).trans ?_
  rw [s0, s1, w0, w1, Fin.ext_iff]
  omega

/-! ## The reference's term -/

/-- The column words after the reference's wrap of negative ones. -/
def wrapped (col : S268435.Idx → BitVec 32) : S268435.Idx → BitVec 32 :=
  select (cmpi .slt col (broadcastInDim S268435 ![] bcast_S_S268435 (constantI S_ 32 0#32)))
    (addi col (broadcastInDim S268435 ![] bcast_S_S268435 (constantI S_ 32 65536#32))) col

/-- Words in range are left alone. -/
theorem wrapped_eq {col : S268435.Idx → BitVec 32} (hc : ∀ i, (col i).toNat < 65536) : wrapped col = col :=
  funext fun i => Routing.wrap_of_lt (col i) _ (lt_trans (hc i) (by decide))

/-- The words as a column of index words. -/
def words (w : S268435.Idx → BitVec 32) : S268435x1.Idx → BitVec 32 := broadcastInDim S268435x1 ![0] bcast_S268435_S268435x1_0 w

theorem words_at (w : S268435.Idx → BitVec 32) (k : Fin 268435) (q : Fin 1) : words w (ix2 k q) = w (ix1 k) := by
  obtain rfl : q = 0 := Subsingleton.elim _ _
  exact Routing.bcCol _ w k

/-- The mask of the entries whose column is in range. -/
def mask (w : S268435.Idx → BitVec 32) : S268435.Idx → BitVec 1 :=
  Host.reduce IntOp.andi (andi (cmpi .sge (words w) (broadcastInDim S268435x1 ![] bcast_S_S268435x1 (constantI S_ 32 0#32)))
      (cmpi .sle (words w) (broadcastInDim S268435x1 ![0, 1] bcast_S1x1_S268435x1_0_1 (broadcastInDim S1x1 ![1] bcast_S1_S1x1_1 (constantI S1 32 65535#32)))))
    (constantI S_ 1 1#1) reducesTo_S268435x1_S268435_d1 h_S_

/-- With the columns in range the mask is true everywhere. -/
theorem mask_one {w : S268435.Idx → BitVec 32} (hc : ∀ i, (w i).toNat < 65536) (i : S268435.Idx) : mask w i = 1#1 := by
  refine Host.reduce_andi_one _ _ _ _ _ rfl fun j => ?_
  obtain ⟨k, q, rfl⟩ : ∃ k q, j = ix2 k q := ⟨j 0, j 1, by funext a; match a with | 0 => rfl | 1 => rfl⟩
  have hw := hc (ix1 k)
  have ti := toInt_small le_rfl hw
  refine IntOp.andi_eq_one.2 ⟨?_, ?_⟩
  · show IntOp.cmpi .sge (words w (ix2 k q)) 0#32 = 1#1
    rw [IntOp.cmpi_sge, words_at, ti]
    exact Int.natCast_nonneg _
  · show IntOp.cmpi .sle (words w (ix2 k q)) 65535#32 = 1#1
    rw [IntOp.cmpi_sle, words_at, ti, show (65535#32 : BitVec 32).toInt = 65535 by decide]
    omega

/-- The contributions: each row's gathered elements times the values. -/
def contrib (X : S256x65536.Idx → Ideal .f32) (w : S268435.Idx → BitVec 32) (vals : S268435.Idx → Ideal .f32) : S256x268435.Idx → Ideal .f32 :=
  mulf (F := Ideal) (φ := .f32) (select (broadcastInDim S256x268435 ![1] bcast_S268435_S256x268435_1 (mask w))
      (Host.gather gather_S256x65536_S268435x1_S256x268435_0_1_n_n_1_1_2561 X (words w))
      (broadcastInDim S256x268435 ![] bcast_S_S256x268435 (constant (F := Ideal) S_ .f32 0x7FC00000#32)))
    (broadcastInDim S256x268435 ![0, 1] bcast_S1x268435_S256x268435_0_1 (broadcastInDim S1x268435 ![1] bcast_S268435_S1x268435_1 vals))

theorem contrib_at (X : S256x65536.Idx → Ideal .f32) {w : S268435.Idx → BitVec 32} (hc : ∀ i, (w i).toNat < 65536)
    (vals : S268435.Idx → Ideal .f32) (b : Fin 256) (k : Fin 268435) :
    contrib X w vals (ix2 b k) = (X (ix2 b ⟨(w (ix1 k)).toNat, hc _⟩) * vals (ix1 k) : EReal) := by
  have hw : (words w (ix2 k (0 : Fin 1))).toNat < 65536 := by rw [words_at]; exact hc _
  have e1 : broadcastInDim S256x268435 ![0, 1] bcast_S1x268435_S256x268435_0_1 (broadcastInDim S1x268435 ![1] bcast_S268435_S1x268435_1 vals) (ix2 b k)
      = vals (ix1 k) := Routing.bcCols _ _ vals b k
  have e2 := gather_at X (words w) b k hw
  have e3 : broadcastInDim S256x268435 ![1] bcast_S268435_S256x268435_1 (mask w) (ix2 b k) = 1#1 := mask_one hc _
  refine Ideal.mul_congr ?_ e1
  show Scalar.select (broadcastInDim S256x268435 ![1] bcast_S268435_S256x268435_1 (mask w) (ix2 b k)) _ _ = _
  rw [e3]
  refine (if_pos rfl).trans (e2.trans (congrArg X (funext fun a => ?_)))
  match a with
  | ⟨0, _⟩ => rfl
  | ⟨1, _⟩ => exact Fin.ext (show (words w (ix2 k (0 : Fin 1))).toNat = (w (ix1 k)).toNat by rw [words_at])

/-- The reference's result. -/
def result (X : S256x65536.Idx → Ideal .f32) (row w : S268435.Idx → BitVec 32) (vals : S268435.Idx → Ideal .f32) : S256x4096.Idx → Ideal .f32 :=
  transpose S256x4096 [1, 0] (Host.scatterAdd (F := Ideal) (φ := .f32) scatter_S4096x256_S268435x1_S268435x256_1_0_0_1
    (broadcastInDim S4096x256 ![] bcast_S_S4096x256 (constant (F := Ideal) S_ .f32 0x00000000#32)) (words row)
    (transpose S268435x256 [1, 0] (contrib X w vals) transposes_S256x268435_S268435x256_1_0)) transposes_S4096x256_S256x4096_1_0

/-- The reference's result is the projection. -/
theorem result_at (X : S256x65536.Idx → Ideal .f32) {row w : S268435.Idx → BitVec 32} (hr : ∀ i, (row i).toNat < 4096)
    (hc : ∀ i, (w i).toNat < 65536) (vals : S268435.Idx → Ideal .f32) (b : Fin 256) (r : Fin 4096) :
    result X row w vals (ix2 b r) = Cert.Proof.Sums.project X row hc vals b r.val := by
  refine (ValueIdx.transpose_ix2_apply _ _ _ _).trans ?_
  show (Ideal.ofBits .f32 0x00000000#32 : EReal) + ∑ j ∈ Finset.univ.filter (fun j => (scatter_S4096x256_S268435x1_S268435x256_1_0_0_1).resultIdx? j (words row) = some (ix2 r b)),
    transpose S268435x256 [1, 0] (contrib X w vals) transposes_S256x268435_S268435x256_1_0 j = _
  rw [Ideal.ofBits_zero_f32, zero_add, Finset.sum_filter, sum_idx2]
  refine Finset.sum_congr rfl fun k _ => ?_
  have step : ∀ c : Fin 256, (if (scatter_S4096x256_S268435x1_S268435x256_1_0_0_1).resultIdx? (ix2 k c) (words row) = some (ix2 r b)
        then transpose S268435x256 [1, 0] (contrib X w vals) transposes_S256x268435_S268435x256_1_0 (ix2 k c) else (0 : EReal))
      = if c = b then (if (row (ix1 k)).toNat = r.val then X (ix2 b ⟨(w (ix1 k)).toNat, hc _⟩) * vals (ix1 k) else 0) else 0 := fun c => by
    have l := lands (words row) k c b r (by rw [words_at]; exact hr _)
    rw [words_at] at l
    by_cases e : c = b
    · subst e
      rw [if_pos rfl]
      exact if_congr (l.trans (and_iff_left rfl)) ((ValueIdx.transpose_ix2_apply _ _ _ _).trans (contrib_at X hc vals c k)) rfl
    · rw [if_neg e, if_neg fun q => e (l.1 q).2]
  simp only [step]
  rw [Finset.sum_ite_eq' Finset.univ b, if_pos (Finset.mem_univ b)]

end Cert.Proof.RefVal

end
-- ==== Proof.Algebraic.lean ====
/-
  The value claim: the idealised kernel and the reference end with one result, the projection.
-/
module

public import proofs.«01_k».proof.Proof.Frames
public import proofs.«01_k».proof.Proof.RefVal

@[expose] public section

noncomputable section

namespace Cert.Proof.Algebraic

open Cert.Proof.Words Cert.Proof.Run Cert.Proof.Launch Cert.Proof.Frames Cert.Proof.RefVal
open Idealize.ShloMosaic Idealize.SL.Sem

/-- From arguments that the second precondition admits, the kernel's whole result is the reference's. -/
theorem result_eq (X : Cert.KernelIdeal.S256x65536.Idx → Ideal .f32) {row col : Cert.KernelIdeal.S268435.Idx → BitVec 32}
    (vals : Cert.KernelIdeal.S268435.Idx → Ideal .f32) (hr : InRange row col) (hv : Signed (F := Ideal) vals) (hX : Bounded (F := Ideal) X) :
    result X row (wrapped col) vals = Cert.Proof.Vals.outAll (F := Ideal) (wordsOK hr vals) X := by
  rw [wrapped_eq fun i => (hr i).2]
  funext j
  obtain ⟨b, r, rfl⟩ : ∃ (b : Fin 256) (r : Fin 4096), j = ix2 b r := ⟨j 0, j 1, by funext a; match a with | 0 => rfl | 1 => rfl⟩
  exact (result_at X (fun i => (hr i).1) (fun i => (hr i).2) vals b r).trans (Cert.Proof.Sums.outAll_eq hr hv hX b r).symm

/-- The value claim. -/
theorem algebraic : Cert.algebraic_KernelIdeal_ReferenceIdeal_pre_projection := by
  intro m g m' g' hpre same
  refine ⟨fun c => (args (ok_projection m hpre)).out c, ?_, ?_⟩
  · exact (θ_run Cert.KernelIdeal.defs _ _).mono (fun _ q c => ⟨(q.1 c).2.2.2.2, (q.1 c).1, (q.1 c).2.1, (q.1 c).2.2.1, (q.1 c).2.2.2.1⟩)
      (run_main (F := Ideal) m g (ok_projection m hpre))
  · refine (θ_run Cert.ReferenceIdeal.defs _ _).mono (fun r q c => ⟨(q c).1.trans ?_, (q c).2⟩) (Cert.ReferenceIdeal.Value.run (F := Ideal) m' g')
    obtain ⟨e0, e1, e2, e3⟩ := same c
    rw [e0, e1, e2, e3]
    obtain ⟨hr, hv, hX⟩ := projection_of (F := Ideal) _ _ _ _ (hpre c)
    exact result_eq _ _ hr hv hX

end Cert.Proof.Algebraic

end
-- ==== Proof.lean ====
/-
  The certificate's claim, from the frames (`Proof/Frames.lean`) and the value claim (`Proof/Algebraic.lean`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_in_range
public import proofs.«01_k».proof.Proof.Gen.Pre_projection
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_in_range.Gen.facts, Cert.Pre_projection.Gen.facts,
    Frames.frame_kernel, Frames.frame_ideal, Frames.frame_ideal_projection, Frames.frame_reference, Frames.frame_reference_projection, trivial,
    Algebraic.algebraic⟩

end Cert.Proof

end
